-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x512x12x64 : Shape := ⟨4, ![2, 512, 12, 64]⟩
abbrev S512x512 : Shape := ⟨2, ![512, 512]⟩
abbrev S64x64 : Shape := ⟨2, ![64, 64]⟩
abbrev S64 : Shape := ⟨1, ![64]⟩
abbrev S64x64x3 : Shape := ⟨3, ![64, 64, 3]⟩
abbrev S_ : Shape := ⟨0, ![]⟩

class Facts : Prop where
  bcast_S_S2x512x12x64 : S_.BroadcastsInDim S2x512x12x64 (![] : Fin 0 → Fin S2x512x12x64.rank)
  bcast_S_S64x64 : S_.BroadcastsInDim S64x64 (![] : Fin 0 → Fin S64x64.rank)

variable [Facts]

def fn {F : FTy → Type} [FloatOps F] (main_arg0 : FVec F S2x512x12x64 .f32) (main_arg1 : FVec F S512x512 .f32) (main_arg2 : FVec F S64x64 .f32) (main_arg3 : FVec F S64 .f32) (main_arg4 : FVec F S64x64 .f32) (main_arg5 : FVec F S64x64 .f32) (main_arg6 : FVec F S64x64x3 .f32) (main_arg7 : FVec F S64 .f32) (main_arg8 : FVec F S64x64 .f32) (main_arg9 : FVec F S64 .f32) (main_arg10 : FVec F S64 .f32) : IVec S2x512x12x64 1 × IVec S64x64 1 × IVec S64x64 1 :=
  let main_v0 : FVec F S2x512x12x64 .f32 := Host.absf main_arg0
  let main_cst : FVec F S_ .f32 := constant S_ .f32 0x7F800000#32
  let main_v1 : FVec F S2x512x12x64 .f32 := broadcastInDim S2x512x12x64 ![] bcast_S_S2x512x12x64 main_cst
  let main_v2 : IVec S2x512x12x64 1 := cmpf .olt main_v0 main_v1
  let main_v3 : FVec F S64x64 .f32 := Host.absf main_arg2
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64x64 .f32 := Host.absf main_arg5
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  (main_v2, main_v5, main_v8)
-- ==== Kernel.lean ====
abbrev S2x512x12x64 : Shape := ⟨4, ![2, 512, 12, 64]⟩
abbrev S512x512 : Shape := ⟨2, ![512, 512]⟩
abbrev S64x64 : Shape := ⟨2, ![64, 64]⟩
abbrev S64 : Shape := ⟨1, ![64]⟩
abbrev S64x64x3 : Shape := ⟨3, ![64, 64, 3]⟩
abbrev S2x512x768 : Shape := ⟨3, ![2, 512, 768]⟩
abbrev S3x64x64 : Shape := ⟨3, ![3, 64, 64]⟩
abbrev S1x64 : Shape := ⟨2, ![1, 64]⟩
abbrev S2x12x512x64 : Shape := ⟨4, ![2, 12, 512, 64]⟩
abbrev S2x14x512x64 : Shape := ⟨4, ![2, 14, 512, 64]⟩
abbrev S_ : Shape := ⟨0, ![]⟩
abbrev S1x512x512 : Shape := ⟨3, ![1, 512, 512]⟩
abbrev S1 : Shape := ⟨1, ![1]⟩
abbrev S1x1x1 : Shape := ⟨3, ![1, 1, 1]⟩
abbrev S512x1 : Shape := ⟨2, ![512, 1]⟩
abbrev S1x512 : Shape := ⟨2, ![1, 512]⟩
abbrev S512 : Shape := ⟨1, ![512]⟩
abbrev S1x512x1 : Shape := ⟨3, ![1, 512, 1]⟩
abbrev S1x512x768 : Shape := ⟨3, ![1, 512, 768]⟩
abbrev S512x768 : Shape := ⟨2, ![512, 768]⟩
abbrev S512x64 : Shape := ⟨2, ![512, 64]⟩
abbrev S6144x64 : Shape := ⟨2, ![6144, 64]⟩
abbrev S12x512x64 : Shape := ⟨3, ![12, 512, 64]⟩
abbrev S1x12x512x64 : Shape := ⟨4, ![1, 12, 512, 64]⟩
abbrev S1x1x512x64 : Shape := ⟨4, ![1, 1, 512, 64]⟩
abbrev S1x512x64 : Shape := ⟨3, ![1, 512, 64]⟩
abbrev S512x128 : Shape := ⟨2, ![512, 128]⟩
abbrev S1x64x64 : Shape := ⟨3, ![1, 64, 64]⟩
abbrev S6144 : Shape := ⟨1, ![6144]⟩
abbrev S6144x1 : Shape := ⟨2, ![6144, 1]⟩
abbrev S2x512x64x12 : Shape := ⟨4, ![2, 512, 64, 12]⟩

abbrev nBuf : Space → Nat
  | .hbm => 19
  | .vmem => 14
  | .smem => 0
  | _ => 0

abbrev bufTy : (tb : Table) → Fin (tcTables nBuf tb) → BufTy
  | .hbm, ⟨0, _⟩ => ⟨S2x512x12x64, .f32⟩
  | .hbm, ⟨1, _⟩ => ⟨S512x512, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64x64x3, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S2x512x768, .f32⟩
  | .hbm, ⟨12, _⟩ => ⟨S3x64x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S2x12x512x64, .f32⟩
  | .hbm, ⟨18, _⟩ => ⟨S2x512x64x12, .f32⟩
  | .local _ .vmem, ⟨0, _⟩ => ⟨S512x512, .f32⟩
  | .local _ .vmem, ⟨1, _⟩ => ⟨S64x64, .f32⟩
  | .local _ .vmem, ⟨2, _⟩ => ⟨S1x64, .f32⟩
  | .local _ .vmem, ⟨3, _⟩ => ⟨S64x64, .f32⟩
  | .local _ .vmem, ⟨4, _⟩ => ⟨S64x64, .f32⟩
  | .local _ .vmem, ⟨5, _⟩ => ⟨S3x64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S2x12x512x64, .f32⟩
  | .local _ .vmem, ⟨11, _⟩ => ⟨S2x512x768, .f32⟩
  | .local _ .vmem, ⟨12, _⟩ => ⟨S2x14x512x64, .f32⟩
  | .local _ .vmem, ⟨13, _⟩ => ⟨S2x12x512x64, .f32⟩
  | _, _ => ⟨S2x512x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x12x512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S2x512x12x64 : Shape := ⟨4, ![2, 512, 12, 64]⟩
abbrev S512x512 : Shape := ⟨2, ![512, 512]⟩
abbrev S64x64 : Shape := ⟨2, ![64, 64]⟩
abbrev S64 : Shape := ⟨1, ![64]⟩
abbrev S64x64x3 : Shape := ⟨3, ![64, 64, 3]⟩
abbrev S_ : Shape := ⟨0, ![]⟩
abbrev S262144 : Shape := ⟨1, ![262144]⟩
abbrev S262144x1 : Shape := ⟨2, ![262144, 1]⟩
abbrev S1 : Shape := ⟨1, ![1]⟩
abbrev S512 : Shape := ⟨1, ![512]⟩
abbrev S1x1x1x64 : Shape := ⟨4, ![1, 1, 1, 64]⟩
abbrev S512x2x12x64 : Shape := ⟨4, ![512, 2, 12, 64]⟩
abbrev S262144x2x12x64 : Shape := ⟨4, ![262144, 2, 12, 64]⟩
abbrev S262144x1x1x1 : Shape := ⟨4, ![262144, 1, 1, 1]⟩
abbrev S512x2x14x64 : Shape := ⟨4, ![512, 2, 14, 64]⟩
abbrev S64x64x1 : Shape := ⟨3, ![64, 64, 1]⟩
abbrev S512x2x12 : Shape := ⟨3, ![512, 2, 12]⟩
abbrev S512x2x12x1 : Shape := ⟨4, ![512, 2, 12, 1]⟩
abbrev S2x512x64x12 : Shape := ⟨4, ![2, 512, 64, 12]⟩

abbrev nBuf : Space → Nat
  | .hbm => 260
  | .vmem => 0
  | .smem => 0
  | _ => 0

abbrev hbmTy0_0 (i : Nat) : BufTy := match i % 128 with
  | 0 => ⟨S2x512x12x64, .f32⟩
  | 1 => ⟨S512x512, .f32⟩
  | 2 => ⟨S64x64, .f32⟩
  | 3 => ⟨S64, .f32⟩
  | 4 => ⟨S64x64, .f32⟩
  | 5 => ⟨S64x64, .f32⟩
  | 6 => ⟨S64x64x3, .f32⟩
  | 7 => ⟨S64, .f32⟩
  | 8 => ⟨S64x64, .f32⟩
  | 9 => ⟨S64, .f32⟩
  | 10 => ⟨S64, .f32⟩
  | 11 => ⟨S_, .f32⟩
  | 12 => ⟨S512x512, .f32⟩
  | 13 => ⟨S512x512, .i1⟩
  | 14 => ⟨S262144, .i1⟩
  | 15 => ⟨S262144, .i32⟩
  | 16 => ⟨S_, .i32⟩
  | 17 => ⟨S_, .i32⟩
  | 18 => ⟨S262144, .i32⟩
  | 19 => ⟨S_, .i32⟩
  | 20 => ⟨S262144, .i32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S_, .i32⟩
  | 30 => ⟨S262144, .i32⟩
  | 31 => ⟨S262144, .i32⟩
  | 32 => ⟨S_, .i32⟩
  | 33 => ⟨S_, .i32⟩
  | 34 => ⟨S262144, .i32⟩
  | 35 => ⟨S_, .i32⟩
  | 36 => ⟨S_, .i32⟩
  | 37 => ⟨S262144, .i32⟩
  | 38 => ⟨S262144, .i32⟩
  | 39 => ⟨S262144, .i32⟩
  | 40 => ⟨S_, .i32⟩
  | 41 => ⟨S262144, .i32⟩
  | 42 => ⟨S262144, .i1⟩
  | 43 => ⟨S262144, .i32⟩
  | 44 => ⟨S262144, .i32⟩
  | 45 => ⟨S_, .i32⟩
  | 46 => ⟨S262144, .i32⟩
  | 47 => ⟨S262144, .i1⟩
  | 48 => ⟨S262144, .i1⟩
  | 49 => ⟨S_, .i32⟩
  | 50 => ⟨S262144, .i32⟩
  | 51 => ⟨S262144, .i32⟩
  | 52 => ⟨S262144, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S262144, .i32⟩
  | 60 => ⟨S262144, .i32⟩
  | 61 => ⟨S_, .i32⟩
  | 62 => ⟨S262144, .i32⟩
  | 63 => ⟨S262144, .i1⟩
  | 64 => ⟨S_, .i32⟩
  | 65 => ⟨S262144, .i32⟩
  | 66 => ⟨S262144, .i1⟩
  | 67 => ⟨S_, .i32⟩
  | 68 => ⟨S_, .i1⟩
  | 69 => ⟨S262144, .i1⟩
  | 70 => ⟨S262144, .i1⟩
  | 71 => ⟨S262144, .i1⟩
  | 72 => ⟨S262144, .i32⟩
  | 73 => ⟨S262144, .i32⟩
  | 74 => ⟨S262144, .i32⟩
  | 75 => ⟨S_, .i32⟩
  | 76 => ⟨S_, .i32⟩
  | 77 => ⟨S262144, .i32⟩
  | 78 => ⟨S262144, .i32⟩
  | 79 => ⟨S262144, .i32⟩
  | 80 => ⟨S_, .i32⟩
  | 81 => ⟨S262144, .i32⟩
  | 82 => ⟨S262144, .i1⟩
  | 83 => ⟨S262144, .i32⟩
  | 84 => ⟨S262144, .i32⟩
  | 85 => ⟨S_, .i32⟩
  | 86 => ⟨S262144, .i32⟩
  | 87 => ⟨S262144, .i1⟩
  | 88 => ⟨S262144, .i1⟩
  | 89 => ⟨S_, .i32⟩
  | 90 => ⟨S262144, .i32⟩
  | 91 => ⟨S262144, .i32⟩
  | 92 => ⟨S262144, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S262144, .i32⟩
  | 100 => ⟨S262144, .i32⟩
  | 101 => ⟨S_, .i32⟩
  | 102 => ⟨S262144, .i32⟩
  | 103 => ⟨S262144, .i1⟩
  | 104 => ⟨S_, .i32⟩
  | 105 => ⟨S262144, .i32⟩
  | 106 => ⟨S262144, .i1⟩
  | 107 => ⟨S_, .i32⟩
  | 108 => ⟨S_, .i1⟩
  | 109 => ⟨S262144, .i1⟩
  | 110 => ⟨S262144, .i1⟩
  | 111 => ⟨S262144, .i1⟩
  | 112 => ⟨S262144, .i32⟩
  | 113 => ⟨S262144, .i32⟩
  | 114 => ⟨S262144, .i32⟩
  | 115 => ⟨S262144, .i32⟩
  | 116 => ⟨S_, .i32⟩
  | 117 => ⟨S_, .i32⟩
  | 118 => ⟨S1, .i32⟩
  | 119 => ⟨S262144, .i32⟩
  | 120 => ⟨S262144, .i32⟩
  | 121 => ⟨S262144, .i1⟩
  | 122 => ⟨S_, .i32⟩
  | 123 => ⟨S1, .i32⟩
  | 124 => ⟨S262144, .i32⟩
  | 125 => ⟨S262144, .i32⟩
  | 126 => ⟨S_, .i32⟩
  | 127 => ⟨S1, .i32⟩
  | _ => ⟨S2x512x12x64, .f32⟩

abbrev hbmTy0_1 (i : Nat) : BufTy := match i % 128 with
  | 0 => ⟨S262144, .i32⟩
  | 1 => ⟨S262144, .i32⟩
  | 2 => ⟨S_, .f32⟩
  | 3 => ⟨S262144, .f32⟩
  | 4 => ⟨S_, .f32⟩
  | 5 => ⟨S512, .f32⟩
  | 6 => ⟨S262144x1, .i32⟩
  | 7 => ⟨S512, .f32⟩
  | 8 => ⟨S_, .f32⟩
  | 9 => ⟨S512, .f32⟩
  | 10 => ⟨S512, .f32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S262144, .f32⟩
  | 20 => ⟨S262144, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144, .f32⟩
  | 30 => ⟨S262144, .f32⟩
  | 31 => ⟨S262144, .f32⟩
  | 32 => ⟨S2x512x12x64, .f32⟩
  | 33 => ⟨S1x1x1x64, .f32⟩
  | 34 => ⟨S2x512x12x64, .f32⟩
  | 35 => ⟨S2x512x12x64, .f32⟩
  | 36 => ⟨S512x2x12x64, .f32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S262144x2x12x64, .f32⟩
  | 46 => ⟨S262144x1x1x1, .f32⟩
  | 47 => ⟨S262144x2x12x64, .f32⟩
  | 48 => ⟨S262144x2x12x64, .f32⟩
  | 49 => ⟨S_, .f32⟩
  | 50 => ⟨S512x2x12x64, .f32⟩
  | 51 => ⟨S262144x1, .i32⟩
  | 52 => ⟨S512x2x12x64, .f32⟩
  | 53 => ⟨S512x2x12x64, .f32⟩
  | 54 => ⟨S512x2x12x64, .f32⟩
  | 55 => ⟨S512x2x12x64, .f32⟩
  | 56 => ⟨S_, .f32⟩
  | 57 => ⟨S512x2x12x64, .f32⟩
  | 58 => ⟨S512x2x12x64, .f32⟩
  | 59 => ⟨S_, .i32⟩
  | 60 => ⟨S_, .f32⟩
  | 61 => ⟨S512x2x14x64, .f32⟩
  | 62 => ⟨S512x2x12x64, .f32⟩
  | 63 => ⟨S64x64x1, .f32⟩
  | 64 => ⟨S64x64, .f32⟩
  | 65 => ⟨S64x64, .f32⟩
  | 66 => ⟨S512x2x12x64, .f32⟩
  | 67 => ⟨S512x2x12x64, .f32⟩
  | 68 => ⟨S64x64x1, .f32⟩
  | 69 => ⟨S64x64, .f32⟩
  | 70 => ⟨S64x64, .f32⟩
  | 71 => ⟨S512x2x12x64, .f32⟩
  | 72 => ⟨S512x2x12x64, .f32⟩
  | 73 => ⟨S512x2x12x64, .f32⟩
  | 74 => ⟨S64x64x1, .f32⟩
  | 75 => ⟨S64x64, .f32⟩
  | 76 => ⟨S64x64, .f32⟩
  | 77 => ⟨S512x2x12x64, .f32⟩
  | 78 => ⟨S512x2x12x64, .f32⟩
  | 79 => ⟨S1x1x1x64, .f32⟩
  | 80 => ⟨S512x2x12x64, .f32⟩
  | 81 => ⟨S512x2x12x64, .f32⟩
  | 82 => ⟨S512x2x12x64, .f32⟩
  | 83 => ⟨S512x2x12x64, .f32⟩
  | 84 => ⟨S_, .f32⟩
  | 85 => ⟨S512x2x12x64, .f32⟩
  | 86 => ⟨S512x2x12x64, .f32⟩
  | 87 => ⟨S_, .f32⟩
  | 88 => ⟨S512x2x12, .f32⟩
  | 89 => ⟨S512x2x12x1, .f32⟩
  | 90 => ⟨S_, .f32⟩
  | 91 => ⟨S512x2x12x1, .f32⟩
  | 92 => ⟨S512x2x12x1, .f32⟩
  | 93 => ⟨S_, .i32⟩
  | 94 => ⟨S_, .f32⟩
  | 95 => ⟨S512x2x12, .f32⟩
  | 96 => ⟨S512x2x12x1, .f32⟩
  | 97 => ⟨S_, .f32⟩
  | 98 => ⟨S512x2x12x1, .f32⟩
  | 99 => ⟨S512x2x12x1, .f32⟩
  | 100 => ⟨S512x2x12x64, .f32⟩
  | 101 => ⟨S512x2x12x64, .f32⟩
  | 102 => ⟨S512x2x12x64, .f32⟩
  | 103 => ⟨S_, .f32⟩
  | 104 => ⟨S_, .f32⟩
  | 105 => ⟨S_, .f32⟩
  | 106 => ⟨S_, .f32⟩
  | 107 => ⟨S512x2x12, .f32⟩
  | 108 => ⟨S512x2x12x1, .f32⟩
  | 109 => ⟨S512x2x12x1, .f32⟩
  | 110 => ⟨S512x2x12x1, .f32⟩
  | 111 => ⟨S_, .f32⟩
  | 112 => ⟨S_, .i1⟩
  | 113 => ⟨S_, .f32⟩
  | 114 => ⟨S_, .f32⟩
  | 115 => ⟨S512x2x12x1, .f32⟩
  | 116 => ⟨S512x2x12x1, .f32⟩
  | 117 => ⟨S512x2x12x64, .f32⟩
  | 118 => ⟨S512x2x12x64, .f32⟩
  | 119 => ⟨S_, .f32⟩
  | 120 => ⟨S512x2x12x1, .f32⟩
  | 121 => ⟨S512x2x12x1, .f32⟩
  | 122 => ⟨S512x2x12x1, .f32⟩
  | 123 => ⟨S512x2x12x64, .f32⟩
  | 124 => ⟨S512x2x12x64, .f32⟩
  | 125 => ⟨S1x1x1x64, .f32⟩
  | 126 => ⟨S512x2x12x64, .f32⟩
  | 127 => ⟨S512x2x12x64, .f32⟩
  | _ => ⟨S2x512x12x64, .f32⟩

abbrev hbmTy0_2 (i : Nat) : BufTy := match i % 128 with
  | 0 => ⟨S1x1x1x64, .f32⟩
  | 1 => ⟨S512x2x12x64, .f32⟩
  | 2 => ⟨S512x2x12x64, .f32⟩
  | 3 => ⟨S2x512x64x12, .f32⟩
  | _ => ⟨S2x512x12x64, .f32⟩

abbrev hbmTy (i : Nat) : BufTy := match i / 128 with
  | 0 => hbmTy0_0 i
  | 1 => hbmTy0_1 i
  | 2 => hbmTy0_2 i
  | _ => ⟨S2x512x12x64, .f32⟩

abbrev bufTy : (tb : Table) → Fin (tcTables nBuf tb) → BufTy
  | .hbm, ⟨i, _⟩ => hbmTy i
  | _, _ => ⟨S2x512x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_call0_c : Ref sig .tc := ⟨.hbm, 16, rfl⟩
abbrev main_call0_call0_v0 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_call1_call0_c : Ref sig .tc := ⟨.hbm, 32, rfl⟩
abbrev main_call1_call0_v0 : Ref sig .tc := ⟨.hbm, 33, rfl⟩
abbrev main_v13 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v14 : Ref sig .tc := ⟨.hbm, 52, rfl⟩
abbrev main_c_4 : Ref sig .tc := ⟨.hbm, 53, rfl⟩
abbrev main_call3_v0 : Ref sig .tc := ⟨.hbm, 54, rfl⟩
abbrev main_call3_c : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_c_1 : Ref sig .tc := ⟨.hbm, 61, rfl⟩
abbrev main_call3_v5 : Ref sig .tc := ⟨.hbm, 62, rfl⟩
abbrev main_call3_v6 : Ref sig .tc := ⟨.hbm, 63, rfl⟩
abbrev main_call3_c_2 : Ref sig .tc := ⟨.hbm, 64, rfl⟩
abbrev main_call3_v7 : Ref sig .tc := ⟨.hbm, 65, rfl⟩
abbrev main_call3_v8 : Ref sig .tc := ⟨.hbm, 66, rfl⟩
abbrev main_call3_c_3 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_v12 : Ref sig .tc := ⟨.hbm, 71, rfl⟩
abbrev main_call3_v13 : Ref sig .tc := ⟨.hbm, 72, rfl⟩
abbrev main_call3_v14 : Ref sig .tc := ⟨.hbm, 73, rfl⟩
abbrev main_v15 : Ref sig .tc := ⟨.hbm, 74, rfl⟩
abbrev main_c_5 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_c : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_0 : Ref sig .tc := ⟨.hbm, 89, rfl⟩
abbrev main_call4_v12 : Ref sig .tc := ⟨.hbm, 90, rfl⟩
abbrev main_call4_v13 : Ref sig .tc := ⟨.hbm, 91, rfl⟩
abbrev main_v16 : Ref sig .tc := ⟨.hbm, 92, rfl⟩
abbrev main_c_6 : Ref sig .tc := ⟨.hbm, 93, rfl⟩
abbrev main_call5_v0 : Ref sig .tc := ⟨.hbm, 94, rfl⟩
abbrev main_call5_c : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_v5 : Ref sig .tc := ⟨.hbm, 102, rfl⟩
abbrev main_call5_v6 : Ref sig .tc := ⟨.hbm, 103, rfl⟩
abbrev main_call5_c_2 : Ref sig .tc := ⟨.hbm, 104, rfl⟩
abbrev main_call5_v7 : Ref sig .tc := ⟨.hbm, 105, rfl⟩
abbrev main_call5_v8 : Ref sig .tc := ⟨.hbm, 106, rfl⟩
abbrev main_call5_c_3 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_v14 : Ref sig .tc := ⟨.hbm, 113, rfl⟩
abbrev main_v17 : Ref sig .tc := ⟨.hbm, 114, rfl⟩
abbrev main_v18 : Ref sig .tc := ⟨.hbm, 115, rfl⟩
abbrev main_c_7 : Ref sig .tc := ⟨.hbm, 116, rfl⟩
abbrev main_v19 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_c_8 : Ref sig .tc := ⟨.hbm, 122, rfl⟩
abbrev main_v24 : Ref sig .tc := ⟨.hbm, 123, rfl⟩
abbrev main_call6_v0 : Ref sig .tc := ⟨.hbm, 124, rfl⟩
abbrev main_v25 : Ref sig .tc := ⟨.hbm, 125, rfl⟩
abbrev main_c_9 : Ref sig .tc := ⟨.hbm, 126, rfl⟩
abbrev main_v26 : Ref sig .tc := ⟨.hbm, 127, rfl⟩
abbrev main_call7_v0 : Ref sig .tc := ⟨.hbm, 128, rfl⟩
abbrev main_v27 : Ref sig .tc := ⟨.hbm, 129, rfl⟩
abbrev main_cst_10 : Ref sig .tc := ⟨.hbm, 130, rfl⟩
abbrev main_v28 : Ref sig .tc := ⟨.hbm, 131, rfl⟩
abbrev main_cst_11 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_cst_12 : Ref sig .tc := ⟨.hbm, 136, rfl⟩
abbrev main_v32 : Ref sig .tc := ⟨.hbm, 137, rfl⟩
abbrev main_v33 : Ref sig .tc := ⟨.hbm, 138, rfl⟩
abbrev main_c_13 : Ref sig .tc := ⟨.hbm, 139, rfl⟩
abbrev main_v34 : Ref sig .tc := ⟨.hbm, 140, rfl⟩
abbrev main_v35 : Ref sig .tc := ⟨.hbm, 141, rfl⟩
abbrev main_c_14 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_c_15 : Ref sig .tc := ⟨.hbm, 149, rfl⟩
abbrev main_v42 : Ref sig .tc := ⟨.hbm, 150, rfl⟩
abbrev main_v43 : Ref sig .tc := ⟨.hbm, 151, rfl⟩
abbrev main_c_16 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_c_17 : Ref sig .tc := ⟨.hbm, 165, rfl⟩
abbrev main_v56 : Ref sig .tc := ⟨.hbm, 166, rfl⟩
abbrev main_v57 : Ref sig .tc := ⟨.hbm, 167, rfl⟩
abbrev main_c_18 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_cst_19 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_call8_cst : Ref sig .tc := ⟨.hbm, 184, rfl⟩
abbrev main_call8_v0 : Ref sig .tc := ⟨.hbm, 185, rfl⟩
abbrev main_v72 : Ref sig .tc := ⟨.hbm, 186, rfl⟩
abbrev main_c_20 : Ref sig .tc := ⟨.hbm, 187, rfl⟩
abbrev main_call9_v0 : Ref sig .tc := ⟨.hbm, 188, rfl⟩
abbrev main_v73 : Ref sig .tc := ⟨.hbm, 189, rfl⟩
abbrev main_v74 : Ref sig .tc := ⟨.hbm, 190, rfl⟩
abbrev main_v75 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_v93 : Ref sig .tc := ⟨.hbm, 209, rfl⟩
abbrev main_v94 : Ref sig .tc := ⟨.hbm, 210, rfl⟩
abbrev main_v95 : Ref sig .tc := ⟨.hbm, 211, rfl⟩
abbrev main_call10_cst : Ref sig .tc := ⟨.hbm, 212, rfl⟩
abbrev main_call10_v0 : Ref sig .tc := ⟨.hbm, 213, rfl⟩
abbrev main_v96 : Ref sig .tc := ⟨.hbm, 214, rfl⟩
abbrev main_cst_21 : Ref sig .tc := ⟨.hbm, 215, rfl⟩
abbrev main_v97 : Ref sig .tc := ⟨.hbm, 216, rfl⟩
abbrev main_v98 : Ref sig .tc := ⟨.hbm, 217, rfl⟩
abbrev main_cst_22 : Ref sig .tc := ⟨.hbm, 218, rfl⟩
abbrev main_v99 : Ref sig .tc := ⟨.hbm, 219, rfl⟩
abbrev main_v100 : Ref sig .tc := ⟨.hbm, 220, rfl⟩
abbrev main_c_23 : Ref sig .tc := ⟨.hbm, 221, rfl⟩
abbrev main_call11_cst : Ref sig .tc := ⟨.hbm, 222, rfl⟩
abbrev main_call11_v0 : Ref sig .tc := ⟨.hbm, 223, rfl⟩
abbrev main_call11_v1 : Ref sig .tc := ⟨.hbm, 224, rfl⟩
abbrev main_call11_cst_0 : Ref sig .tc := ⟨.hbm, 225, rfl⟩
abbrev main_call11_v2 : Ref sig .tc := ⟨.hbm, 226, rfl⟩
abbrev main_call11_v3 : Ref sig .tc := ⟨.hbm, 227, rfl⟩
abbrev main_call11_v4 : Ref sig .tc := ⟨.hbm, 228, rfl⟩
abbrev main_call11_v5 : Ref sig .tc := ⟨.hbm, 229, rfl⟩
abbrev main_call11_v6 : Ref sig .tc := ⟨.hbm, 230, rfl⟩
abbrev main_call11_v7 : Ref sig .tc := ⟨.hbm, 231, rfl⟩
abbrev main_call11_cst_1 : Ref sig .tc := ⟨.hbm, 232, rfl⟩
abbrev main_call11_v8 : Ref sig .tc := ⟨.hbm, 233, rfl⟩
abbrev main_call11_cst_2 : Ref sig .tc := ⟨.hbm, 234, rfl⟩
abbrev main_call11_v9 : Ref sig .tc := ⟨.hbm, 235, rfl⟩
abbrev main_call11_v10 : Ref sig .tc := ⟨.hbm, 236, rfl⟩
abbrev main_call11_v11 : Ref sig .tc := ⟨.hbm, 237, rfl⟩
abbrev main_call11_v12 : Ref sig .tc := ⟨.hbm, 238, rfl⟩
abbrev main_call11_cst_3 : Ref sig .tc := ⟨.hbm, 239, rfl⟩
abbrev main_call11_v13 : Ref sig .tc := ⟨.hbm, 240, rfl⟩
abbrev main_call11_cst_4 : Ref sig .tc := ⟨.hbm, 241, rfl⟩
abbrev main_call11_call0_v0 : Ref sig .tc := ⟨.hbm, 242, rfl⟩
abbrev main_call11_call0_v1 : Ref sig .tc := ⟨.hbm, 243, rfl⟩
abbrev main_v101 : Ref sig .tc := ⟨.hbm, 244, rfl⟩
abbrev main_v102 : Ref sig .tc := ⟨.hbm, 245, rfl⟩
abbrev main_v103 : Ref sig .tc := ⟨.hbm, 246, rfl⟩
abbrev main_cst_24 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_v111 : Ref sig .tc := ⟨.hbm, 255, rfl⟩
abbrev main_v112 : Ref sig .tc := ⟨.hbm, 256, rfl⟩
abbrev main_v113 : Ref sig .tc := ⟨.hbm, 257, rfl⟩
abbrev main_v114 : Ref sig .tc := ⟨.hbm, 258, rfl⟩
abbrev main_v115 : Ref sig .tc := ⟨.hbm, 259, rfl⟩

abbrev nD : Nat := 1
abbrev τ : Topo := Topo.v7x

variable {F : FTy → Type} [FloatOps F]
-- ==== Proof.KerFeat.lean ====
/-
  The kernel's features at an index: the 6144 rows of the stacked time steps, row `512 t + n`, times the first weights plus the
  bias — for either batch element.
-/
module

public import proofs.«01_k».proof.Proof.Gen.KernelIdeal.Frame
public import Idealize.ShloMosaic.Lib.Pointwise

@[expose] public section

noncomputable section

namespace Cert.Encoder.Ker

open Cert.KernelIdeal Cert.KernelIdeal.Gen
open Idealize.ShloMosaic

/-- Row `512 t + n` of the stacked time steps. -/
def row (t : Fin 12) (n : Fin 512) : Fin 6144 := ⟨t * 512 + n, by omega⟩

/-- Twelve steps of 64 columns fill the 768. -/
theorem step_fits (t : Fin 12) : S512x768.Slices (![0, 64 * (t : ℕ)] : Fin 2 → ℕ) S512x64 :=
  ⟨rfl, fun a => by
    fin_cases a
    · show 0 + 512 ≤ 512; omega
    · show 64 * (t : ℕ) + 64 ≤ 768; omega⟩

/-- The columns of time step `t` in an element's `512 × 768` table. -/
def stepCols (x : FVec Ideal S512x768 .f32) (t : Fin 12) : FVec Ideal S512x64 .f32 :=
  extractStridedSlice S512x64 (![0, 64 * (t : ℕ)] : Fin 2 → ℕ) x (step_fits t)

/-- The stack of the twelve time steps' columns. -/
def stacked (x : FVec Ideal S512x768 .f32) : FVec Ideal S6144x64 .f32 :=
  concatenate S6144x64 0 [⟨S512x64, stepCols x 0⟩, ⟨S512x64, stepCols x 1⟩, ⟨S512x64, stepCols x 2⟩, ⟨S512x64, stepCols x 3⟩,
    ⟨S512x64, stepCols x 4⟩, ⟨S512x64, stepCols x 5⟩, ⟨S512x64, stepCols x 6⟩, ⟨S512x64, stepCols x 7⟩, ⟨S512x64, stepCols x 8⟩,
    ⟨S512x64, stepCols x 9⟩, ⟨S512x64, stepCols x 10⟩, ⟨S512x64, stepCols x 11⟩]
    concatenates_S512x64_S512x64_S512x64_S512x64_S512x64_S512x64_S512x64_S512x64_S512x64_S512x64_S512x64_S512x64_S6144x64_d0

/-- A time step's columns at a node and a feature. -/
theorem stepCols_at (x : FVec Ideal S512x768 .f32) (t : Fin 12) (n : Fin 512) (e : Fin 64) :
    stepCols x t (ix2 n e) = x (ix2 n ⟨64 * t + e, by omega⟩) := by
  unfold stepCols
  refine congrArg x (funext fun a => Fin.ext ?_)
  fin_cases a
  · show 0 + (n : ℕ) = n; omega
  · rfl

/-- The stack at row `512 t + n` holds node `n` of time step `t`. -/
theorem stacked_at (x : FVec Ideal S512x768 .f32) (t : Fin 12) (n : Fin 512) (e : Fin 64) :
    stacked x (ix2 (row t n) e) = x (ix2 n ⟨64 * t + e, by omega⟩) := by
  rw [← stepCols_at x t n e]
  exact concatenate_ofFn_apply (0 : Fin S6144x64.rank) (fun k => stepCols x k)
    concatenates_S512x64_S512x64_S512x64_S512x64_S512x64_S512x64_S512x64_S512x64_S512x64_S512x64_S512x64_S512x64_S6144x64_d0
    rfl 512 rfl (ix2 (row t n) e) t (by show ((t : ℕ) * 512 + n) / 512 = t; omega) (ix2 n e)
    (by show (n : ℕ) = ((t : ℕ) * 512 + n) % 512; omega)
    (fun b hb => by
      fin_cases b
      · exact absurd rfl hb
      · rfl)

/-- The stacked features of the first batch element, before the bias. -/
theorem product_at (x : Vec Ideal S1x512x768 .f32) (W : Vec Ideal S64x64 .f32) (t : Fin 12) (n : Fin 512) (d : Fin 64) :
    (k0_pay13 x W (ix2 (row t n) d) : EReal) = ∑ e : Fin 64, x (ix3 0 n ⟨64 * t + e, by omega⟩) * W (ix2 e d) := by
  have h : k0_pay13 x W = matmul dot_S6144x64_S64x64_S6144x64_1_0_0_1_n_n none
      (stacked (shapeCast S512x768 x shapeCasts_S1x512x768_S512x768)) W (constant S6144x64 .f32 0x00000000#32) := rfl
  rw [h]
  pointwise []
  refine Finset.sum_congr rfl fun e _ => ?_
  rw [stacked_at]
  pointwise []

/-- The features of the first batch element: products plus bias. -/
def feats (x : Vec Ideal S1x512x768 .f32) (W : Vec Ideal S64x64 .f32) (b : Vec Ideal S1x64 .f32) : FVec Ideal S6144x64 .f32 :=
  k0_pay15 (k0_pay13 x W) (k0_pay14 b)

/-- The second element's features are computed by the same operations. -/
theorem feats_second (x : Vec Ideal S1x512x768 .f32) (W : Vec Ideal S64x64 .f32) (b : Vec Ideal S1x64 .f32) :
    k0_pay45 (k0_pay9 b) x W = feats x W b := rfl

/-- The features at a node and a step. -/
theorem feats_at (x : Vec Ideal S1x512x768 .f32) (W : Vec Ideal S64x64 .f32) (b : Vec Ideal S1x64 .f32) (t : Fin 12) (n : Fin 512)
    (d : Fin 64) : (feats x W b (ix2 (row t n) d) : EReal)
      = (∑ e : Fin 64, x (ix3 0 n ⟨64 * t + e, by omega⟩) * W (ix2 e d)) + b (ix2 0 d) := by
  rw [← product_at]
  unfold feats k0_pay15 k0_pay14 k0_pay9
  generalize k0_pay13 x W = p
  pointwise []

end Cert.Encoder.Ker
-- ==== Proof.Spec.lean ====
/-
  What the encoder block computes, over the extended reals, as plain functions of coordinates: the weights of the graph
  (adjacency with the missing entries counted as loops at node 0), the first linear map, the graph convolution in the two
  orders of multiplication, the temporal convolution, the layer norm.
-/
module

public import Idealize.ShloMosaic.PureOps.Ideal

@[expose] public section

noncomputable section

namespace Cert.Encoder

open Idealize.ShloMosaic
open scoped BigOperators Classical

/-! ### The graph -/

/-- How many nodes have an edge to node `j`. -/
def indeg (A : Fin 512 → Fin 512 → EReal) (j : Fin 512) : ℕ := (Finset.univ.filter fun i => A i j ≠ 0).card

/-- How many edges the graph has. -/
def edges (A : Fin 512 → Fin 512 → EReal) : ℕ := ∑ j, indeg A j

/-- How many of the 512 · 512 slots of the edge list hold no edge (and stand for a loop at node 0). -/
def absent (A : Fin 512 → Fin 512 → EReal) : ℕ := 262144 - edges A

/-- The degree of node `j`, at least one. -/
def deg (A : Fin 512 → Fin 512 → EReal) (j : Fin 512) : ℝ :=
  max (((indeg A j + if j = 0 then absent A else 0 : ℕ)) : ℝ) 1

/-- The inverse root of the degree. -/
def invRoot (A : Fin 512 → Fin 512 → EReal) (j : Fin 512) : ℝ := (√(deg A j))⁻¹

/-- The weight with which node `i` enters the sum at node `j`. -/
def weight (A : Fin 512 → Fin 512 → EReal) (i j : Fin 512) : ℝ :=
  (if A i j ≠ 0 then invRoot A i * invRoot A j else 0)
    + (if i = 0 ∧ j = 0 then (absent A : ℝ) * (invRoot A 0 * invRoot A 0) else 0)

/-! ### The network -/

/-- The network's parameters and input, by coordinates. -/
structure Data where
  X : Fin 2 → Fin 512 → Fin 12 → Fin 64 → EReal
  A : Fin 512 → Fin 512 → EReal
  W1 : Fin 64 → Fin 64 → EReal
  b1 : Fin 64 → EReal
  θ0 : Fin 64 → Fin 64 → EReal
  θ1 : Fin 64 → Fin 64 → EReal
  Wt : Fin 64 → Fin 64 → Fin 3 → EReal
  bt : Fin 64 → EReal
  Wr : Fin 64 → Fin 64 → EReal
  γ : Fin 64 → EReal
  β : Fin 64 → EReal

variable (D : Data)

/-- The first linear map. -/
def feat (b : Fin 2) (n : Fin 512) (t : Fin 12) (d : Fin 64) : EReal := (∑ e, D.X b n t e * D.W1 e d) + D.b1 d

/-- The graph convolution as the kernel takes it: the features are multiplied by `θ1` first, then summed over the
    neighbours. -/
def spatialK (b : Fin 2) (n : Fin 512) (t : Fin 12) (f : Fin 64) : EReal :=
  max ((∑ d, feat D b n t d * D.θ0 d f) + ∑ i, (weight D.A i n : EReal) * ∑ d, feat D b i t d * D.θ1 d f) 0

/-- The graph convolution as the reference takes it: the features are summed over the neighbours first. -/
def spatialR (b : Fin 2) (n : Fin 512) (t : Fin 12) (f : Fin 64) : EReal :=
  max ((∑ d, feat D b n t d * D.θ0 d f) + ∑ d, (∑ i, (weight D.A i n : EReal) * feat D b i t d) * D.θ1 d f) 0

/-- A sequence over the twelve steps with a zero before and a zero after. -/
def padded (s : Fin 12 → EReal) (k : ℕ) : EReal := if h : 1 ≤ k ∧ k < 13 then s ⟨k - 1, by omega⟩ else 0

/-- The temporal convolution of `s`, with the residual, before the layer norm. -/
def mixed (s : Fin 2 → Fin 512 → Fin 12 → Fin 64 → EReal) (b : Fin 2) (n : Fin 512) (t : Fin 12) (f : Fin 64) : EReal :=
  max ((((∑ g, padded (fun u => s b n u g) t.val * D.Wt f g 0) + ∑ g, padded (fun u => s b n u g) (t.val + 1) * D.Wt f g 1)
      + ∑ g, padded (fun u => s b n u g) (t.val + 2) * D.Wt f g 2) + D.bt f + ∑ d, feat D b n t d * D.Wr d f) 0

/-! ### The layer norm -/

/-- The number of features, as the programs write it. -/
def sixtyFour : EReal := Ideal.ofBits .f32 0x42800000#32
/-- The guard under the layer norm's root, as the programs write it. -/
def guard : EReal := Ideal.ofBits .f32 0x3727C5AC#32

/-- An entry less the mean. -/
def centred (o : Fin 64 → EReal) (f : Fin 64) : EReal := o f - Ideal.div (∑ g, o g) sixtyFour

/-- The variance with the guard added. -/
def spread (o : Fin 64 → EReal) : EReal := Ideal.div (∑ g, centred o g * centred o g) sixtyFour + guard

/-- The layer norm as the kernel takes it, by the inverse root. -/
def normK (o : Fin 64 → EReal) (f : Fin 64) : EReal := centred o f * Ideal.rsqrt (spread o) * D.γ f + D.β f

/-- The layer norm as the reference takes it, by a division. -/
def normR (o : Fin 64 → EReal) (f : Fin 64) : EReal := Ideal.div (centred o f) (Ideal.sqrt (spread o)) * D.γ f + D.β f

/-- What the kernel leaves at `(b, t, n, f)`. -/
def outK (b : Fin 2) (n : Fin 512) (t : Fin 12) (f : Fin 64) : EReal := normK D (mixed D (spatialK D) b n t) f

/-- What the reference leaves there. -/
def outR (b : Fin 2) (n : Fin 512) (t : Fin 12) (f : Fin 64) : EReal := normR D (mixed D (spatialR D) b n t) f

end Cert.Encoder

end
-- ==== Proof.KerRows.lean ====
/-
  The kernel's table of spatial rows: a zero row before and after the twelve steps of each batch element, and between them
  the rectified sum of the node's own product and its neighbours'.
-/
module

public import proofs.«01_k».proof.Proof.Gen.KernelIdeal.Frame
public import proofs.«01_k».proof.Proof.Spec
public import Idealize.ShloMosaic.Lib.Pointwise
public import Idealize.ShloMosaic.Lib.Pipeline.ValueKit.Tiles

@[expose] public section

set_option maxRecDepth 16384

noncomputable section

namespace Cert.Encoder.Ker

open Cert.KernelIdeal Cert.KernelIdeal.Gen
open Idealize.ShloMosaic Idealize.ShloMosaic.Tactic

/-- Step `u` of node `n`: its own product plus the weighted sum of its neighbours', rectified. -/
def spat (A : FVec Ideal S512x512 .f32) (p q : FVec Ideal S12x512x64 .f32) (u : Fin 12) (n : Fin 512) (f : Fin 64) : EReal :=
  max (p (ix3 u n f) + ∑ i : Fin 512, A (ix2 i n) * q (ix3 u i f)) 0

/-- A store of one row of the table agrees with a function of the table's index if its payload does at every node and feature. -/
theorem piece_ok (b k : ℕ)
    (inb : ∀ a, (![b, k, 0, 0] : Fin 4 → ℕ) a + S1x1x512x64.size a ≤ S2x14x512x64.size a) (w : S1x1x512x64.Idx → EReal) (G : S2x14x512x64.Idx → EReal)
    (h : ∀ n f, w (ix4 0 0 n f) = G (ix4 ⟨b, inb 0⟩ ⟨k, inb 1⟩ n f))
    (x : (Rect.unit (s := S2x14x512x64) ![b, k, 0, 0] S1x1x512x64.size inb).shape.Idx) :
    w x = G ((Rect.unit (s := S2x14x512x64) ![b, k, 0, 0] S1x1x512x64.size inb).emb x) := by
  have hx : x = ix4 (n0 := 1) (n1 := 1) (n2 := 512) (n3 := 64) 0 0 (x 2) (x 3) := by
    funext a
    fin_cases a
    · exact Subsingleton.elim (α := Fin 1) _ _
    · exact Subsingleton.elim (α := Fin 1) _ _
    · rfl
    · rfl
  have hy : (Rect.unit (s := S2x14x512x64) ![b, k, 0, 0] S1x1x512x64.size inb).emb x = ix4 ⟨b, inb 0⟩ ⟨k, inb 1⟩ (x 2) (x 3) := by
    funext a
    refine Fin.ext ((Rect.idx_unit_val _ _ inb x a).trans ?_)
    have h0 : ((x 0 : Fin 1) : ℕ) < 1 := (x 0).isLt
    have h1 : ((x 1 : Fin 1) : ℕ) < 1 := (x 1).isLt
    fin_cases a
    · show b + ((x 0 : Fin 1) : ℕ) = b; omega
    · show k + ((x 1 : Fin 1) : ℕ) = k; omega
    · show 0 + ((x 2 : Fin 512) : ℕ) = (x 2 : Fin 512); omega
    · show 0 + ((x 3 : Fin 64) : ℕ) = (x 3 : Fin 64); omega
  rw [hy]
  exact (congrArg w hx).trans (h _ _)

/-- The stores into the table, the last one first: `A` the weights, `g`, `h` the two summands of the first element's features,
    `g'` the second's features. -/
def stores (A : FVec Ideal S512x512 .f32) (g h g' : FVec Ideal S6144x64 .f32) (θ0 θ1 : Vec Ideal S64x64 .f32) :
    List (View.Piece (Elt Ideal) S2x14x512x64 .f32) :=
  [⟨Rect.unit ![1, 12, 0, 0] S1x1x512x64.size inb_S2x14x512x64_S1x1x512x64_1_12_0_0,
    k0_pay73 (k0_pay71 (k0_pay47 g' θ0)) (k0_pay72 A (k0_pay48 g' θ1))⟩,
    ⟨Rect.unit ![1, 11, 0, 0] S1x1x512x64.size inb_S2x14x512x64_S1x1x512x64_1_11_0_0,
    k0_pay70 A (k0_pay47 g' θ0) (k0_pay48 g' θ1)⟩,
    ⟨Rect.unit ![1, 10, 0, 0] S1x1x512x64.size inb_S2x14x512x64_S1x1x512x64_1_10_0_0,
    k0_pay68 A (k0_pay47 g' θ0) (k0_pay48 g' θ1) (k0_pay65 (k0_pay48 g' θ1))⟩,
    ⟨Rect.unit ![1, 9, 0, 0] S1x1x512x64.size inb_S2x14x512x64_S1x1x512x64_1_9_0_0,
    k0_pay67 A (k0_pay47 g' θ0) (k0_pay48 g' θ1) (k0_pay65 (k0_pay48 g' θ1))⟩,
    ⟨Rect.unit ![1, 8, 0, 0] S1x1x512x64.size inb_S2x14x512x64_S1x1x512x64_1_8_0_0,
    k0_pay64 A (k0_pay47 g' θ0) (k0_pay48 g' θ1)⟩,
    ⟨Rect.unit ![1, 7, 0, 0] S1x1x512x64.size inb_S2x14x512x64_S1x1x512x64_1_7_0_0,
    k0_pay63 A (k0_pay47 g' θ0) (k0_pay48 g' θ1)⟩,
    ⟨Rect.unit ![1, 6, 0, 0] S1x1x512x64.size inb_S2x14x512x64_S1x1x512x64_1_6_0_0,
    k0_pay61 (k0_pay47 g' θ0) (k0_pay58 A (k0_pay48 g' θ1))⟩,
    ⟨Rect.unit ![1, 5, 0, 0] S1x1x512x64.size inb_S2x14x512x64_S1x1x512x64_1_5_0_0,
    k0_pay60 (k0_pay59 A (k0_pay47 g' θ0) (k0_pay48 g' θ1))⟩,
    ⟨Rect.unit ![1, 4, 0, 0] S1x1x512x64.size inb_S2x14x512x64_S1x1x512x64_1_4_0_0,
    k0_pay57 A (k0_pay47 g' θ0) (k0_pay48 g' θ1)⟩,
    ⟨Rect.unit ![1, 3, 0, 0] S1x1x512x64.size inb_S2x14x512x64_S1x1x512x64_1_3_0_0,
    k0_pay56 A (k0_pay47 g' θ0) (k0_pay48 g' θ1)⟩,
    ⟨Rect.unit ![1, 2, 0, 0] S1x1x512x64.size inb_S2x14x512x64_S1x1x512x64_1_2_0_0,
    k0_pay54 (k0_pay53 A g' θ0 θ1)⟩,
    ⟨Rect.unit ![1, 1, 0, 0] S1x1x512x64.size inb_S2x14x512x64_S1x1x512x64_1_1_0_0, k0_pay52 A g' θ0 θ1⟩,
    ⟨Rect.unit ![1, 13, 0, 0] S1x1x512x64.size inb_S2x14x512x64_S1x1x512x64_1_13_0_0, k0_pay50 (F := Ideal)⟩,
    ⟨Rect.unit ![1, 0, 0, 0] S1x1x512x64.size inb_S2x14x512x64_S1x1x512x64_1_0_0_0, k0_pay49 (F := Ideal)⟩,
    ⟨Rect.unit ![0, 12, 0, 0] S1x1x512x64.size inb_S2x14x512x64_S1x1x512x64_0_12_0_0,
    k0_pay44 (k0_pay17 g h θ0) (k0_pay40 A (k0_pay18 g h θ1))⟩,
    ⟨Rect.unit ![0, 11, 0, 0] S1x1x512x64.size inb_S2x14x512x64_S1x1x512x64_0_11_0_0,
    k0_pay43 (k0_pay41 A (k0_pay17 g h θ0) (k0_pay18 g h θ1)) k0_pay42 (F := Ideal)⟩,
    ⟨Rect.unit ![0, 10, 0, 0] S1x1x512x64.size inb_S2x14x512x64_S1x1x512x64_0_10_0_0,
    k0_pay39 A (k0_pay17 g h θ0) (k0_pay18 g h θ1)⟩,
    ⟨Rect.unit ![0, 9, 0, 0] S1x1x512x64.size inb_S2x14x512x64_S1x1x512x64_0_9_0_0,
    k0_pay38 A (k0_pay17 g h θ0) (k0_pay18 g h θ1)⟩,
    ⟨Rect.unit ![0, 8, 0, 0] S1x1x512x64.size inb_S2x14x512x64_S1x1x512x64_0_8_0_0,
    k0_pay36 (k0_pay35 A (k0_pay17 g h θ0) (k0_pay18 g h θ1)) (FloatOps.ofBits FTy.f32 0#32)⟩,
    ⟨Rect.unit ![0, 7, 0, 0] S1x1x512x64.size inb_S2x14x512x64_S1x1x512x64_0_7_0_0,
    k0_pay34 A (k0_pay17 g h θ0) (k0_pay18 g h θ1)⟩,
    ⟨Rect.unit ![0, 6, 0, 0] S1x1x512x64.size inb_S2x14x512x64_S1x1x512x64_0_6_0_0,
    k0_pay32 A (k0_pay17 g h θ0) (k0_pay28 (k0_pay18 g h θ1)) (k0_pay29 (k0_pay18 g h θ1))⟩,
    ⟨Rect.unit ![0, 5, 0, 0] S1x1x512x64.size inb_S2x14x512x64_S1x1x512x64_0_5_0_0,
    k0_pay31 A (k0_pay17 g h θ0) (k0_pay28 (k0_pay18 g h θ1)) (k0_pay29 (k0_pay18 g h θ1))⟩,
    ⟨Rect.unit ![0, 4, 0, 0] S1x1x512x64.size inb_S2x14x512x64_S1x1x512x64_0_4_0_0,
    k0_pay27 A (k0_pay17 g h θ0) (k0_pay18 g h θ1)⟩,
    ⟨Rect.unit ![0, 3, 0, 0] S1x1x512x64.size inb_S2x14x512x64_S1x1x512x64_0_3_0_0,
    k0_pay26 A (k0_pay17 g h θ0) (k0_pay18 g h θ1)⟩,
    ⟨Rect.unit ![0, 2, 0, 0] S1x1x512x64.size inb_S2x14x512x64_S1x1x512x64_0_2_0_0,
    k0_pay24 (k0_pay17 g h θ0) (k0_pay21 A g h θ1)⟩,
    ⟨Rect.unit ![0, 1, 0, 0] S1x1x512x64.size inb_S2x14x512x64_S1x1x512x64_0_1_0_0,
    k0_pay23 (k0_pay22 A g h θ0 θ1)⟩,
    ⟨Rect.unit ![0, 13, 0, 0] S1x1x512x64.size inb_S2x14x512x64_S1x1x512x64_0_13_0_0, k0_pay20 (F := Ideal)⟩,
    ⟨Rect.unit ![0, 0, 0, 0] S1x1x512x64.size inb_S2x14x512x64_S1x1x512x64_0_0_0_0, k0_pay19 (F := Ideal)⟩]

/-- The table the stores leave, at an index: the padded steps of the element. -/
def table (A : FVec Ideal S512x512 .f32) (p q p' q' : FVec Ideal S12x512x64 .f32) (y : S2x14x512x64.Idx) : EReal :=
  padded (fun u => if ((y 0 : Fin 2) : ℕ) = 0 then spat A p q u (y 2) (y 3) else spat A p' q' u (y 2) (y 3)) (y 1 : Fin 14)

/-- The stores of the table's rows leave `table`: every row is written, and each with its padded step. -/
theorem stores_eq (A : FVec Ideal S512x512 .f32) (g h g' : FVec Ideal S6144x64 .f32) (θ0 θ1 : Vec Ideal S64x64 .f32)
    (y : S2x14x512x64.Idx) : View.canon (stores A g h g' θ0 θ1) y
      = table A (k0_pay17 g h θ0) (k0_pay18 g h θ1) (k0_pay47 g' θ0) (k0_pay48 g' θ1) y := by
  refine View.canon_apply_of_pieces (Val := Elt Ideal) _ _ ?_ y
    (View.cover_of_tiledL (stores A g h g' θ0 θ1) S1x1x512x64.size (by sl_kernel_rfl) y)
  unfold stores
  iterate 28 (refine List.forall_mem_cons.2 ⟨?_, ?_⟩; swap)
  · exact fun p hp => absurd hp List.not_mem_nil
  all_goals refine piece_ok _ _ ?_ _ _ ?_
  all_goals first | decide | intro n f
  all_goals dsimp only
  all_goals pointwise [k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40,
      k0_pay41, k0_pay42, k0_pay43, k0_pay44, k0_pay49, k0_pay50, k0_pay51, k0_pay52, k0_pay53, k0_pay54, k0_pay55,
      k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73]
  all_goals rfl

end Cert.Encoder.Ker
-- ==== Proof.KerTile.lean ====
/-
  The kernel's output tile of one batch element at an index: the three taps of the temporal convolution, bias and residual,
  rectified, then the layer norm by the inverse root. Both elements' tiles are the same function of what they read.
-/
module

public import proofs.«01_k».proof.Proof.KerFeat
public import proofs.«01_k».proof.Proof.Spec

@[expose] public section

set_option maxRecDepth 4096

noncomputable section

namespace Cert.Encoder.Ker

open Cert.KernelIdeal Cert.KernelIdeal.Gen
open Idealize.ShloMosaic

/-- The rows before the layer norm: convolution, bias and residual, rectified. -/
def preNorm (bt : FVec Ideal S1x64 .f32) (conv : FVec Ideal S6144x64 .f32) (ft : Vec Ideal S1x12x512x64 .f32)
    (Wr : Vec Ideal S64x64 .f32) : FVec Ideal S6144x64 .f32 :=
  maximumf
    (addf (addf conv (broadcastTo S6144x64 bt broadcasts_S1x64_S6144x64))
      (matmul (φ₂ := .f32) dot_S6144x64_S64x64_S6144x64_1_0_0_1_n_n none (k0_pay76 ft) Wr (constant S6144x64 .f32 0x00000000#32)))
    (broadcast S6144x64 (Scalar.ofBits .f32 0x00000000#32))

/-- The rows less their means. -/
def lessMean (o : FVec Ideal S6144x64 .f32) : FVec Ideal S6144x64 .f32 :=
  subf o (broadcastTo S6144x64
    (divf (shapeCast S6144x1 (multiReduction .add [1] S6144 o 0x00000000#32 reduces_S6144x64_S6144 (.inl rfl) rfl)
      shapeCasts_S6144_S6144x1) (broadcast S6144x1 (Scalar.ofBits .f32 0x42800000#32))) broadcasts_S6144x1_S6144x64)

/-- The tile of one element. -/
def tile (bt γ β : FVec Ideal S1x64 .f32) (conv : FVec Ideal S6144x64 .f32) (ft : Vec Ideal S1x12x512x64 .f32)
    (Wr : Vec Ideal S64x64 .f32) : FVec Ideal S1x12x512x64 .f32 :=
  k0_pay1 γ β (lessMean (preNorm bt conv ft Wr)) (mulf (lessMean (preNorm bt conv ft Wr)) (lessMean (preNorm bt conv ft Wr)))

/-- The first element's tile. -/
theorem tile_first (bt γ β : FVec Ideal S1x64 .f32) (conv : FVec Ideal S6144x64 .f32) (ft : Vec Ideal S1x12x512x64 .f32)
    (Wr : Vec Ideal S64x64 .f32) : k0_pay75 bt γ β conv ft Wr = tile bt γ β conv ft Wr := rfl

/-- The second element's tile. -/
theorem tile_second (bt γ β : FVec Ideal S1x64 .f32) (s0 s1 s2 : Vec Ideal S1x12x512x64 .f32) (w0 w1 w2 : Vec Ideal S1x64x64 .f32)
    (ft : Vec Ideal S1x12x512x64 .f32) (Wr : Vec Ideal S64x64 .f32) :
    k0_pay1 γ β (k0_pay78 bt (k0_pay76 s0) (k0_pay77 w0) s1 w1 s2 w2 ft Wr) (k0_pay79 bt (k0_pay76 s0) (k0_pay77 w0) s1 w1 s2 w2 ft Wr)
      = tile bt γ β (k0_pay74 s0 w0 s1 w1 s2 w2) ft Wr := rfl

/-- The convolution's three taps at a node and a step. -/
theorem conv_at (s0 s1 s2 : Vec Ideal S1x12x512x64 .f32) (w0 w1 w2 : Vec Ideal S1x64x64 .f32) (t : Fin 12) (n : Fin 512) (f : Fin 64) :
    (k0_pay74 s0 w0 s1 w1 s2 w2 (ix2 (row t n) f) : EReal)
      = ((∑ g : Fin 64, s0 (ix4 0 t n g) * w0 (ix3 0 g f)) + ∑ g : Fin 64, s1 (ix4 0 t n g) * w1 (ix3 0 g f))
        + ∑ g : Fin 64, s2 (ix4 0 t n g) * w2 (ix3 0 g f) := by
  unfold k0_pay74 row
  pointwise []

/-- The rows before the layer norm, at a node and a step. -/
theorem preNorm_at (bt : FVec Ideal S1x64 .f32) (conv : FVec Ideal S6144x64 .f32) (ft : Vec Ideal S1x12x512x64 .f32)
    (Wr : Vec Ideal S64x64 .f32) (t : Fin 12) (n : Fin 512) (f : Fin 64) :
    (preNorm bt conv ft Wr (ix2 (row t n) f) : EReal)
      = max (conv (ix2 (row t n) f) + bt (ix2 0 f) + ∑ d : Fin 64, ft (ix4 0 t n d) * Wr (ix2 d f)) 0 := by
  unfold preNorm k0_pay76 row
  pointwise []

/-- A row less its mean. -/
theorem lessMean_at (o : FVec Ideal S6144x64 .f32) (r : Fin 6144) (f : Fin 64) :
    (lessMean o (ix2 r f) : EReal) = centred (fun g => o (ix2 r g)) f := by
  unfold lessMean centred sixtyFour
  pointwise []

/-- The layer norm at a node and a step. -/
theorem norm_at (γ β : FVec Ideal S1x64 .f32) (c q : FVec Ideal S6144x64 .f32) (t : Fin 12) (n : Fin 512) (f : Fin 64) :
    (k0_pay1 γ β c q (ix4 0 t n f) : EReal)
      = c (ix2 (row t n) f) * Ideal.rsqrt (Ideal.div (∑ g : Fin 64, q (ix2 (row t n) g)) sixtyFour + guard) * γ (ix2 0 f)
        + β (ix2 0 f) := by
  unfold k0_pay1 row sixtyFour guard
  pointwise []

/-- The tile at a node and a step: the layer norm of the row before it. -/
theorem tile_at (bt γ β : FVec Ideal S1x64 .f32) (conv : FVec Ideal S6144x64 .f32) (ft : Vec Ideal S1x12x512x64 .f32)
    (Wr : Vec Ideal S64x64 .f32) (t : Fin 12) (n : Fin 512) (f : Fin 64) (o : Fin 64 → EReal)
    (ho : ∀ g : Fin 64, (preNorm bt conv ft Wr (ix2 (row t n) g) : EReal) = o g) :
    (tile bt γ β conv ft Wr (ix4 0 t n f) : EReal)
      = centred o f * Ideal.rsqrt (spread o) * γ (ix2 0 f) + β (ix2 0 f) := by
  have hc : ∀ g : Fin 64, (lessMean (preNorm bt conv ft Wr) (ix2 (row t n) g) : EReal) = centred o g := fun g => by
    rw [lessMean_at, show (fun g => (preNorm bt conv ft Wr (ix2 (row t n) g) : EReal)) = o from funext ho]
  unfold tile
  rw [norm_at, hc]
  unfold spread
  simp only [← hc]
  rfl

end Cert.Encoder.Ker
-- ==== Proof.Algebra.lean ====
/-
  The kernel's and the reference's formula agree where the features, the first linear map and the neighbours' weights are
  finite: `out_eq`. The two steps are that the factor `θ1` passes the sum over the neighbours (`spatial_eq`) and that
  dividing by a root is multiplying by the inverse root (`norm_eq`).
-/
module

public import proofs.«01_k».proof.Proof.Spec
public import Idealize.ShloMosaic.Lib.IdealHost

@[expose] public section

noncomputable section

namespace Cert.Encoder

open Idealize.ShloMosaic
open scoped BigOperators Classical

/-! ### The constants -/

/-- `64.0` is sixty-four. -/
theorem sixtyFour_eq : sixtyFour = ((64 : ℝ) : EReal) := by
  unfold sixtyFour
  simp [Ideal.ofBits, Ideal.ieee, -EReal.coe_mul]; norm_num

/-- The guard is a positive real. -/
theorem guard_pos : ∃ ε : ℝ, 0 < ε ∧ guard = (ε : EReal) := by
  refine ⟨(10995116 : ℝ) * (2 : ℝ) ^ (-40 : ℤ), by positivity, ?_⟩
  unfold guard
  simp [Ideal.ofBits, Ideal.ieee, -EReal.coe_mul]

/-! ### The layer norm -/

/-- A square is not negative. -/
theorem square_nonneg (x : EReal) : 0 ≤ x * x := by
  induction x with
  | bot => simp
  | top => simp
  | coe r => rw [← EReal.coe_mul]; exact EReal.coe_nonneg.2 (mul_self_nonneg r)

/-- The variance with its guard is positive. -/
theorem spread_pos (o : Fin 64 → EReal) : 0 < spread o := by
  obtain ⟨ε, hε, e⟩ := guard_pos
  have h64 : sixtyFour ≠ 0 := by rw [sixtyFour_eq]; exact_mod_cast (by norm_num : (64 : ℝ) ≠ 0)
  have hs : 0 ≤ ∑ g, centred o g * centred o g := Finset.sum_nonneg fun g _ => square_nonneg _
  have hd : 0 ≤ Ideal.div (∑ g, centred o g * centred o g) sixtyFour := by
    unfold Ideal.div
    rw [if_neg h64, sixtyFour_eq, ← EReal.coe_inv]
    exact mul_nonneg hs (EReal.coe_nonneg.2 (by norm_num))
  unfold spread
  rw [e]
  calc (0 : EReal) < (ε : EReal) := EReal.coe_pos.2 hε
    _ ≤ _ := le_add_of_nonneg_left hd

/-- Dividing by the root of a positive number is multiplying by its inverse root. -/
theorem div_sqrt (c v : EReal) (hv : 0 < v) : Ideal.div c (Ideal.sqrt v) = c * Ideal.rsqrt v := by
  induction v with
  | bot => exact absurd hv (by simp)
  | top =>
    rw [show Ideal.sqrt ⊤ = ⊤ from rfl, show Ideal.rsqrt ⊤ = 0 from rfl, Ideal.div, if_neg EReal.top_ne_zero, EReal.inv_top]
  | coe r =>
    have hr : 0 < r := EReal.coe_pos.1 hv
    have h0 : Real.sqrt r ≠ 0 := (Real.sqrt_pos.2 hr).ne'
    have h0' : ((Real.sqrt r : ℝ) : EReal) ≠ 0 := by exact_mod_cast h0
    rw [show Ideal.sqrt (r : EReal) = if r < 0 then ⊥ else ((Real.sqrt r : ℝ) : EReal) from rfl,
      show Ideal.rsqrt (r : EReal) = if r < 0 then ⊥ else if r = 0 then ⊤ else (((Real.sqrt r)⁻¹ : ℝ) : EReal) from rfl,
      if_neg hr.not_gt, if_neg hr.not_gt, if_neg hr.ne', Ideal.div, if_neg h0', EReal.coe_inv]

/-- The two layer norms agree. -/
theorem norm_eq (D : Data) (o : Fin 64 → EReal) (f : Fin 64) : normK D o f = normR D o f := by
  unfold normK normR
  rw [div_sqrt _ _ (spread_pos o)]

/-! ### The sum over the neighbours -/

/-- A real factor passes the sum of two numbers that are not opposite infinities. -/
theorem add_mul_real (x y : EReal) (θ : ℝ) (h : (x ≠ ⊥ ∧ y ≠ ⊥) ∨ (x ≠ ⊤ ∧ y ≠ ⊤)) : (x + y) * (θ : EReal) = x * θ + y * θ := by
  rcases le_total 0 θ with hθ | hθ
  · exact EReal.right_distrib_of_nonneg_of_ne_top (EReal.coe_nonneg.2 hθ) (EReal.coe_ne_top θ) x y
  · rcases eq_or_lt_of_le hθ with e | hlt
    · subst e; simp
    have ht : (⊤ : EReal) * (θ : EReal) = ⊥ := EReal.top_mul_coe_of_neg hlt
    have hb : (⊥ : EReal) * (θ : EReal) = ⊤ := EReal.bot_mul_coe_of_neg hlt
    have hm : ∀ a : ℝ, (a : EReal) * (θ : EReal) = ((a * θ : ℝ) : EReal) := fun a => (EReal.coe_mul a θ).symm
    rcases h with ⟨hx, hy⟩ | ⟨hx, hy⟩
    · induction x with
      | bot => exact absurd rfl hx
      | top => rw [EReal.top_add_of_ne_bot hy, ht, EReal.bot_add]
      | coe a =>
        induction y with
        | bot => exact absurd rfl hy
        | top => rw [EReal.add_top_of_ne_bot hx, ht, EReal.add_bot]
        | coe b => rw [← EReal.coe_add, hm, hm, hm, ← EReal.coe_add, add_mul]
    · induction x with
      | top => exact absurd rfl hx
      | bot =>
        rw [EReal.bot_add, hb]
        induction y with
        | top => exact absurd rfl hy
        | bot => rw [hb]; rfl
        | coe b => rw [hm, EReal.top_add_coe]
      | coe a =>
        induction y with
        | top => exact absurd rfl hy
        | bot => rw [EReal.add_bot, hb, hm, EReal.coe_add_top]
        | coe b => rw [← EReal.coe_add, hm, hm, hm, ← EReal.coe_add, add_mul]

/-- A real factor passes a sum in which `⊥` and `⊤` do not meet. -/
theorem sum_mul_real {ι : Type} (s : Finset ι) (y : ι → EReal) (θ : ℝ) (h : (∀ i, y i ≠ ⊥) ∨ (∀ i, y i ≠ ⊤)) :
    (∑ i ∈ s, y i) * (θ : EReal) = ∑ i ∈ s, y i * θ := by
  have hs : ∀ s : Finset ι, ((∀ i, y i ≠ ⊥) → ∑ i ∈ s, y i ≠ ⊥) ∧ ((∀ i, y i ≠ ⊤) → ∑ i ∈ s, y i ≠ ⊤) := fun s => by
    induction s using Finset.induction_on with
    | empty => simp
    | insert a s ha ih =>
      rw [Finset.sum_insert ha]
      exact ⟨fun hy => by simp [EReal.add_eq_bot_iff, hy a, ih.1 hy], fun hy => EReal.add_ne_top (hy a) (ih.2 hy)⟩
  induction s using Finset.induction_on with
  | empty => simp
  | insert a s ha ih =>
    rw [Finset.sum_insert ha, Finset.sum_insert ha, add_mul_real, ih]
    exact h.imp (fun hy => ⟨hy a, (hs s).1 hy⟩) fun hy => ⟨hy a, (hs s).2 hy⟩

/-- A real factor that is not negative passes any sum. -/
theorem mul_sum_nonneg {ι : Type} (s : Finset ι) (y : ι → EReal) (w : ℝ) (hw : 0 ≤ w) :
    (w : EReal) * ∑ i ∈ s, y i = ∑ i ∈ s, (w : EReal) * y i := by
  induction s using Finset.induction_on with
  | empty => simp
  | insert a s ha ih =>
    rw [Finset.sum_insert ha, Finset.sum_insert ha, EReal.left_distrib_of_nonneg_of_ne_top (EReal.coe_nonneg.2 hw) (EReal.coe_ne_top w), ih]

/-- The degrees are at least one, so the inverse roots are not negative. -/
theorem invRoot_nonneg (A : Fin 512 → Fin 512 → EReal) (j : Fin 512) : 0 ≤ invRoot A j := inv_nonneg.2 (Real.sqrt_nonneg _)

/-- The weights are not negative. -/
theorem weight_nonneg (A : Fin 512 → Fin 512 → EReal) (i j : Fin 512) : 0 ≤ weight A i j := by
  have h : ∀ i j, 0 ≤ invRoot A i * invRoot A j := fun i j => mul_nonneg (invRoot_nonneg A i) (invRoot_nonneg A j)
  unfold weight
  refine add_nonneg ?_ ?_
  · split
    · exact h i j
    · exact le_rfl
  · split
    · exact mul_nonneg (Nat.cast_nonneg _) (h 0 0)
    · exact le_rfl

/-- What the claim supposes finite: the input, the first linear map and the neighbours' weights. -/
structure Finite (D : Data) : Prop where
  X : ∀ b n t e, ∃ r : ℝ, D.X b n t e = r
  W1 : ∀ e d, ∃ r : ℝ, D.W1 e d = r
  θ1 : ∀ d f, ∃ r : ℝ, D.θ1 d f = r

/-- Before the bias the first linear map's result is real. -/
theorem feat_real {D : Data} (h : Finite D) (b : Fin 2) (n : Fin 512) (t : Fin 12) (d : Fin 64) :
    ∃ r : ℝ, feat D b n t d = (r : EReal) + D.b1 d := by
  choose x hx using h.X
  choose w hw using h.W1
  refine ⟨∑ e, x b n t e * w e d, ?_⟩
  unfold feat
  refine congrArg (· + D.b1 d) ?_
  simp only [hx, hw, ← EReal.coe_mul]
  exact (map_sum (⟨⟨Real.toEReal, rfl⟩, EReal.coe_add⟩ : ℝ →+ EReal) _ _).symm

/-- In one column the weighted features never hold both infinities: the bias decides which one they may hold. -/
theorem weighted_side {D : Data} (h : Finite D) (b : Fin 2) (n : Fin 512) (t : Fin 12) (d : Fin 64) :
    (∀ i, (weight D.A i n : EReal) * feat D b i t d ≠ ⊥) ∨ (∀ i, (weight D.A i n : EReal) * feat D b i t d ≠ ⊤) := by
  have hw : ∀ i, (0 : EReal) ≤ (weight D.A i n : EReal) := fun i => EReal.coe_nonneg.2 (weight_nonneg D.A i n)
  by_cases hb : D.b1 d = ⊥
  · refine Or.inr fun i => ?_
    obtain ⟨r, hr⟩ := feat_real h b i t d
    rw [hr, hb, EReal.add_bot]
    rcases eq_or_lt_of_le (weight_nonneg D.A i n) with e | e
    · rw [← e]; simp
    · rw [EReal.coe_mul_bot_of_pos e]; simp
  · refine Or.inl fun i => ?_
    obtain ⟨r, hr⟩ := feat_real h b i t d
    rw [hr]
    have hf : (r : EReal) + D.b1 d ≠ ⊥ := by simp [EReal.add_eq_bot_iff, hb]
    generalize (r : EReal) + D.b1 d = z at hf
    induction z with
    | bot => exact absurd rfl hf
    | coe z => rw [← EReal.coe_mul]; exact EReal.coe_ne_bot _
    | top =>
      rcases eq_or_lt_of_le (weight_nonneg D.A i n) with e | e
      · rw [← e]; simp
      · rw [EReal.coe_mul_top_of_pos e]; simp

/-- Multiplying by `θ1` before or after the sum over the neighbours gives the same. -/
theorem spatial_eq {D : Data} (h : Finite D) (b : Fin 2) (n : Fin 512) (t : Fin 12) (f : Fin 64) : spatialK D b n t f = spatialR D b n t f := by
  unfold spatialK spatialR
  refine congrArg (fun z => max ((∑ d, feat D b n t d * D.θ0 d f) + z) 0) ?_
  calc (∑ i, (weight D.A i n : EReal) * ∑ d, feat D b i t d * D.θ1 d f)
      = ∑ i, ∑ d, (weight D.A i n : EReal) * (feat D b i t d * D.θ1 d f) :=
        Finset.sum_congr rfl fun i _ => mul_sum_nonneg _ _ _ (weight_nonneg D.A i n)
    _ = ∑ d, ∑ i, (weight D.A i n : EReal) * (feat D b i t d * D.θ1 d f) := Finset.sum_comm
    _ = ∑ d, (∑ i, (weight D.A i n : EReal) * feat D b i t d) * D.θ1 d f := Finset.sum_congr rfl fun d _ => by
        obtain ⟨θ, hθ⟩ := h.θ1 d f
        rw [hθ, sum_mul_real _ _ _ (weighted_side h b n t d)]
        exact Finset.sum_congr rfl fun i _ => (mul_assoc _ _ _).symm

/-- The kernel's formula is the reference's. -/
theorem out_eq {D : Data} (h : Finite D) (b : Fin 2) (n : Fin 512) (t : Fin 12) (f : Fin 64) : outK D b n t f = outR D b n t f := by
  unfold outK outR
  rw [norm_eq, show spatialK D = spatialR D from funext fun b => funext fun n => funext fun t => funext fun f => spatial_eq h b n t f]

end Cert.Encoder

end
-- ==== Proof.Edges.lean ====
/-
  The edge list. Listing the positions of the adjacency's non-zero entries in row-major order, and filling the list up with
  position 0, the sum of any function of an edge's two ends over the list is its sum over the non-zero entries and, once for
  every slot that holds no edge, its value at the loop (0, 0): `edge_sum`.
-/
module

public import proofs.«01_k».proof.Proof.Spec

@[expose] public section

namespace Cert.Encoder

open scoped BigOperators Classical

/-! ### Listing the positions where a predicate holds -/

section Listing

variable (P : ℕ → Prop) [DecidablePred P] (N : ℕ)

/-- Entry `e` of the list: the number of positions up to which at most `e` hits lie — the position of hit `e` —, and 0 past the hits. -/
def entry (e : ℕ) : ℕ := if Nat.count P N ≤ e then 0 else Nat.count (fun i => Nat.count P (i + 1) ≤ e) N

variable {P N}

/-- The entry numbered by how many hits lie before a hit `k` is `k`. -/
theorem entry_count {k : ℕ} (hk : k < N) (h : P k) : entry P N (Nat.count P k) = k := by
  have hlt : Nat.count P k < Nat.count P N := Nat.count_strict_mono h hk
  have hiff : ∀ i, Nat.count P (i + 1) ≤ Nat.count P k ↔ i < k := fun i => by
    constructor
    · intro hc
      by_contra hge
      have h1 : Nat.count P (k + 1) ≤ Nat.count P (i + 1) := Nat.count_monotone P (by omega)
      rw [Nat.count_succ, if_pos h] at h1
      omega
    · exact fun hi => Nat.count_monotone P hi
  have hcount : ∀ M, Nat.count (fun i => i < k) M = min k M := fun M => by
    induction M with
    | zero => simp
    | succ M ih =>
      rw [Nat.count_succ, ih]
      split <;> omega
  unfold entry
  rw [if_neg (by omega), Nat.count_eq_card_filter_range]
  simp only [hiff]
  rw [← Nat.count_eq_card_filter_range, hcount]
  omega

/-- An entry is a position. -/
theorem entry_lt (hN : 0 < N) (e : ℕ) : entry P N e < N := by
  unfold entry
  split
  · exact hN
  · next h =>
    have hN1 : Nat.count P N = Nat.count P (N - 1 + 1) := by rw [Nat.sub_add_cancel hN]
    have : ¬ Nat.count P (N - 1 + 1) ≤ e := by rw [← hN1]; exact h
    have hs : Nat.count (fun i => Nat.count P (i + 1) ≤ e) N = Nat.count (fun i => Nat.count P (i + 1) ≤ e) (N - 1) := by
      conv_lhs => rw [← Nat.sub_add_cancel hN]
      rw [Nat.count_succ, if_neg this, Nat.add_zero]
    rw [hs]
    exact lt_of_le_of_lt (Nat.count_le _) (by omega)

/-- The sum over the list is the sum over the hits and, for every slot past them, the value at 0. -/
theorem sum_entry {M : Type} [AddCommMonoid M] (G : ℕ → M) :
    ∑ e ∈ Finset.range N, G (entry P N e) = (∑ k ∈ Finset.range N, if P k then G k else 0) + (N - Nat.count P N) • G 0 := by
  have hn : Nat.count P N ≤ N := Nat.count_le _
  rw [← Finset.sum_range_add_sum_Ico _ hn]
  congr 1
  · rw [← Finset.sum_filter]
    symm
    refine Finset.sum_bij (fun k _ => Nat.count P k) (fun k hk => ?_) (fun a ha b hb h => ?_) (fun e he => ?_) fun k hk => ?_
    · obtain ⟨h1, h2⟩ := Finset.mem_filter.1 hk
      exact Finset.mem_range.2 (Nat.count_strict_mono h2 (Finset.mem_range.1 h1))
    · exact Nat.count_injective (Finset.mem_filter.1 ha).2 (Finset.mem_filter.1 hb).2 h
    · have hs := Finset.surjOn_of_injOn_of_card_le (s := (Finset.range N).filter P) (t := Finset.range (Nat.count P N)) (Nat.count P)
        (fun k hk => by
          obtain ⟨h1, h2⟩ := Finset.mem_filter.1 (Finset.mem_coe.1 hk)
          exact Finset.mem_coe.2 (Finset.mem_range.2 (Nat.count_strict_mono h2 (Finset.mem_range.1 h1))))
        (fun a ha b hb h => Nat.count_injective (Finset.mem_filter.1 (Finset.mem_coe.1 ha)).2 (Finset.mem_filter.1 (Finset.mem_coe.1 hb)).2 h)
        (by rw [Finset.card_range, Nat.count_eq_card_filter_range])
      obtain ⟨k, hk, e'⟩ := hs (Finset.mem_coe.2 he)
      exact ⟨k, Finset.mem_coe.1 hk, e'⟩
    · obtain ⟨h1, h2⟩ := Finset.mem_filter.1 hk
      rw [entry_count (Finset.mem_range.1 h1) h2]
  · rw [Finset.sum_congr rfl (g := fun _ => G 0) fun e he => by
      rw [entry, if_pos (Finset.mem_Ico.1 he).1], Finset.sum_const, Nat.card_Ico]

end Listing

/-! ### The edges of the graph -/

/-- The row of a flat position of the adjacency. -/
def rowOf (k : ℕ) : Fin 512 := ⟨k / 512 % 512, Nat.mod_lt _ (by norm_num)⟩
/-- The column of a flat position of the adjacency. -/
def colOf (k : ℕ) : Fin 512 := ⟨k % 512, Nat.mod_lt _ (by norm_num)⟩

/-- A flat position holds an edge. -/
def hit (A : Fin 512 → Fin 512 → EReal) (k : ℕ) : Prop := A (rowOf k) (colOf k) ≠ 0

noncomputable instance (A : Fin 512 → Fin 512 → EReal) : DecidablePred (hit A) := fun _ => Classical.propDecidable _

/-- A choice on an edge being there is the choice on its entry being nonzero. -/
theorem ite_hit {M : Type} (A : Fin 512 → Fin 512 → EReal) (k : ℕ) (x y : M) :
    (if hit A k then x else y) = if A (rowOf k) (colOf k) ≠ 0 then x else y := by
  by_cases h : A (rowOf k) (colOf k) ≠ 0
  · rw [if_pos h, if_pos (show hit A k from h)]
  · rw [if_neg h, if_neg (show ¬ hit A k from h)]

/-- A sum over the flat positions is the sum over rows and columns. -/
theorem sum_flat {M : Type} [AddCommMonoid M] (G : Fin 512 → Fin 512 → M) :
    ∑ k ∈ Finset.range 262144, G (rowOf k) (colOf k) = ∑ i, ∑ j, G i j := by
  rw [← Fin.sum_univ_eq_sum_range (fun k => G (rowOf k) (colOf k)), ← Fintype.sum_prod_type' (f := G)]
  refine Fintype.sum_equiv (finProdFinEquiv (m := 512) (n := 512)).symm _ _ fun k => ?_
  have hk : k.val < 262144 := k.isLt
  refine congrArg₂ G (Fin.ext ?_) (Fin.ext ?_)
  · show k.val / 512 % 512 = k.val / 512
    exact Nat.mod_eq_of_lt (by omega)
  · rfl

/-- The number of edges is the number of hits. -/
theorem edges_eq (A : Fin 512 → Fin 512 → EReal) : edges A = Nat.count (hit A) 262144 := by
  have h := sum_flat fun i j => if A i j ≠ 0 then 1 else 0
  rw [Nat.count_eq_card_filter_range, Finset.card_filter]
  refine Eq.trans ?_ (h.symm.trans (Finset.sum_congr rfl fun k _ => (ite_hit A k _ _).symm))
  rw [Finset.sum_comm]
  unfold edges indeg
  exact Finset.sum_congr rfl fun j _ => Finset.card_filter _ _

/-- The two ends of the edge in slot `e`. -/
noncomputable def srcOf (A : Fin 512 → Fin 512 → EReal) (e : ℕ) : Fin 512 := rowOf (entry (hit A) 262144 e)
noncomputable def dstOf (A : Fin 512 → Fin 512 → EReal) (e : ℕ) : Fin 512 := colOf (entry (hit A) 262144 e)

/-- The sum of a function of an edge's two ends over the slots of the list. -/
theorem edge_sum {M : Type} [AddCommMonoid M] (A : Fin 512 → Fin 512 → EReal) (G : Fin 512 → Fin 512 → M) :
    ∑ e : Fin 262144, G (srcOf A e.val) (dstOf A e.val) = (∑ i, ∑ j, if A i j ≠ 0 then G i j else 0) + (absent A) • (G 0 0) := by
  rw [Fin.sum_univ_eq_sum_range (fun e => G (srcOf A e) (dstOf A e))]
  have h := sum_entry (P := hit A) (N := 262144) fun k => G (rowOf k) (colOf k)
  have h0 : G (rowOf 0) (colOf 0) = G 0 0 := congrArg₂ G (Fin.ext rfl) (Fin.ext rfl)
  simp only [h0] at h
  have e1 : (∑ k ∈ Finset.range 262144, if hit A k then G (rowOf k) (colOf k) else 0) = ∑ i, ∑ j, if A i j ≠ 0 then G i j else 0 :=
    (Finset.sum_congr rfl fun k _ => ite_hit A k _ _).trans (sum_flat fun i j => if A i j ≠ 0 then G i j else 0)
  rw [absent, edges_eq, ← e1]
  exact h

end Cert.Encoder
-- ==== Proof.Weights.lean ====
/-
  The sums over the edge list, by the weights: the degree of a node (`degree_eq`), and the sum of the messages arriving at a node
  (`arriving_eq`), which is the sum over all nodes by their weights.
-/
module

public import proofs.«01_k».proof.Proof.Algebra
public import proofs.«01_k».proof.Proof.Edges

@[expose] public section

noncomputable section

namespace Cert.Encoder

open Idealize.ShloMosaic
open scoped BigOperators Classical

variable (A : Fin 512 → Fin 512 → EReal)

/-- The slots whose edge ends at `j`, in number: the edges into `j`, and at node 0 the slots that hold no edge. -/
theorem arrivals_eq (j : Fin 512) :
    (∑ e : Fin 262144, if dstOf A e.val = j then 1 else 0) = indeg A j + if j = 0 then absent A else 0 := by
  rw [edge_sum A fun _ j' => if j' = j then 1 else 0]
  generalize absent A = a
  refine congrArg₂ (· + ·) ?_ ?_
  · unfold indeg
    rw [Finset.card_filter]
    refine Finset.sum_congr rfl fun i _ => ?_
    rw [Finset.sum_eq_single j (fun j' _ h => by simp [h]) (by simp)]
    simp
  · by_cases h : j = 0
    · simp [h]
    · simp [h, Ne.symm h]

/-- A sum of ones over some of the slots, at least one, is the degree. -/
theorem degree_eq (j : Fin 512) : max (0 + ∑ e : Fin 262144, if dstOf A e.val = j then (1 : EReal) else 0) 1 = ((deg A j : ℝ) : EReal) := by
  have h : (∑ e : Fin 262144, if dstOf A e.val = j then (1 : EReal) else 0) = ((∑ e : Fin 262144, if dstOf A e.val = j then 1 else 0 : ℕ) : EReal) := by
    rw [Nat.cast_sum]
    exact Finset.sum_congr rfl fun e _ => by split <;> simp
  rw [zero_add, h, arrivals_eq]
  unfold deg
  rw [EReal.coe_strictMono.monotone.map_max]
  rfl

/-- Where every slot brings the feature of its source by the inverse roots of the two degrees, what arrives at node `n` is the
    sum of all features by their weights. -/
theorem arriving_eq (F : Fin 512 → EReal) (n : Fin 512) :
    (0 + ∑ e : Fin 262144, if dstOf A e.val = n then F (srcOf A e.val) * ((invRoot A (srcOf A e.val) : EReal) * (invRoot A (dstOf A e.val) : EReal)) else 0)
      = ∑ i, (weight A i n : EReal) * F i := by
  rw [zero_add, edge_sum A fun i j => if j = n then F i * ((invRoot A i : EReal) * (invRoot A j : EReal)) else 0]
  unfold weight
  generalize absent A = a
  have hr : ∀ i j, 0 ≤ invRoot A i * invRoot A j := fun i j => mul_nonneg (invRoot_nonneg A i) (invRoot_nonneg A j)
  have hw : ∀ i, (((if A i n ≠ 0 then invRoot A i * invRoot A n else 0)
      + (if i = 0 ∧ n = 0 then (a : ℝ) * (invRoot A 0 * invRoot A 0) else 0) : ℝ) : EReal) * F i
      = (if A i n ≠ 0 then F i * ((invRoot A i : EReal) * (invRoot A n : EReal)) else 0)
        + (if i = 0 ∧ n = 0 then a • (F 0 * ((invRoot A 0 : EReal) * (invRoot A 0 : EReal))) else 0) := fun i => by
    rw [EReal.coe_add, EReal.right_distrib_of_nonneg]
    · congr 1
      · split
        · rw [← EReal.coe_mul, mul_comm]
        · simp
      · split
        · next h =>
          rw [h.1, ← EReal.coe_mul, mul_comm (F 0), EReal.coe_mul, mul_assoc, EReal.nsmul_eq_mul]
          simp
        · simp
    · split
      · exact EReal.coe_nonneg.2 (hr _ _)
      · simp
    · split
      · exact EReal.coe_nonneg.2 (mul_nonneg (Nat.cast_nonneg _) (hr _ _))
      · simp
  rw [Finset.sum_congr rfl fun i _ => hw i, Finset.sum_add_distrib]
  refine congrArg₂ (· + ·) ?_ ?_
  · refine Finset.sum_congr rfl fun i _ => ?_
    rw [Finset.sum_eq_single n (fun j' _ h => by simp [h]) (by simp)]
    simp
  · rw [Finset.sum_eq_single 0 (fun i _ h => by simp [h]) (by simp)]
    by_cases h : n = 0
    · simp [h]
    · simp [h, Ne.symm h]

/-- The inverse root of a degree. -/
theorem rsqrt_deg (A : Fin 512 → Fin 512 → EReal) (j : Fin 512) : Ideal.rsqrt ((deg A j : ℝ) : EReal) = (invRoot A j : EReal) := by
  have h1 : (1 : ℝ) ≤ deg A j := le_max_right _ _
  rw [show Ideal.rsqrt ((deg A j : ℝ) : EReal) = if deg A j < 0 then ⊥ else if deg A j = 0 then ⊤ else (((√(deg A j))⁻¹ : ℝ) : EReal) from rfl,
    if_neg (by linarith), if_neg (by linarith), invRoot]

end Cert.Encoder

end
-- ==== Proof.KerGraph.lean ====
/-
  The weights the kernel builds from the adjacency: the 0/1 mask, the missing edges counted as loops at node 0, the degrees
  by columns and by rows, and the mask scaled by the two inverse roots with the correction at the corner.
-/
module

public import proofs.«01_k».proof.Proof.Gen.KernelIdeal.Frame
public import proofs.«01_k».proof.Proof.Weights
public import Idealize.ShloMosaic.Lib.Pointwise

@[expose] public section

noncomputable section

namespace Cert.Encoder.Ker

open Cert.KernelIdeal Cert.KernelIdeal.Gen
open Idealize.ShloMosaic

/-- The adjacency the kernel is given, by coordinates. -/
def graph (x : Vec Ideal S512x512 .f32) (i j : Fin 512) : EReal := x (ix2 i j)

/-- Whether an index word is zero. -/
theorem is_zero (j : Fin 512) : IntOp.cmpi CmpIPredicate.eq (BitVec.ofNat 32 (j : ℕ)) 0#32 = BitVec.ofBool (decide (j = 0)) := by
  have h : (BitVec.ofNat 32 (j : ℕ) = 0#32) ↔ j = 0 := by
    rw [← BitVec.toNat_inj, BitVec.toNat_ofNat, Nat.mod_eq_of_lt (lt_trans j.isLt (by norm_num))]
    exact ⟨fun h => Fin.ext h, fun h => congrArg Fin.val h⟩
  show BitVec.ofBool (decide (BitVec.ofNat 32 (j : ℕ) = 0#32)) = _
  rw [decide_eq_decide.2 h]

/-- A choice by one bit. -/
theorem pick (p : Prop) [Decidable p] (u v : EReal) : Scalar.select (BitVec.ofBool (decide p)) u v = if p then u else v := by
  by_cases h : p
  · rw [if_pos h, decide_eq_true h]; rfl
  · rw [if_neg h, decide_eq_false h]; rfl

/-- Both bits. -/
theorem both (p q : Prop) [Decidable p] [Decidable q] :
    IntOp.andi (BitVec.ofBool (decide p)) (BitVec.ofBool (decide q)) = BitVec.ofBool (decide (p ∧ q)) := by
  by_cases hp : p <;> by_cases hq : q <;> simp only [hp, hq, decide_true, decide_false, and_true, and_false] <;> rfl

/-- The mask. -/
theorem mask_at (x : Vec Ideal S512x512 .f32) (i j : Fin 512) :
    (k0_pay2 x (ix2 i j) : EReal) = if graph x i j ≠ 0 then 1 else 0 := by
  unfold k0_pay2 graph
  pointwise []
  by_cases h : x (ix2 i j) ≠ 0
  · rw [if_pos h, decide_eq_true h]
    exact (EReal.coe_eq_one (x := ((1 : ℤ) : ℝ))).2 (by norm_num)
  · rw [if_neg h, decide_eq_false h]
    exact (EReal.coe_eq_zero (x := ((0 : ℤ) : ℝ))).2 (by norm_num)

/-- A column of sums, by a product with a column of equal entries. -/
theorem col_sum (m : FVec Ideal S512x512 .f32) (c : EReal) (j : Fin 512) :
    (matmul (F := Ideal) (φ₁ := .f32) (φ₂ := .f32) (so := S512x1) dot_S512x512_S512x1_S512x1_0_0_1_1_n_n none m (broadcast S512x1 c)
        (constant S512x1 .f32 0x00000000#32) (ix2 j 0) : EReal) = ∑ i : Fin 512, (m (ix2 i j) : EReal) * c := by
  pointwise []

/-- A row of sums. -/
theorem row_sum (m : FVec Ideal S512x512 .f32) (j : Fin 512) :
    (shapeCast S1x512 (multiReduction (F := Ideal) .add [0] S512 m 0x00000000#32 reduces_S512x512_S512 (.inl rfl) rfl)
        shapeCasts_S512_S1x512 (ix2 0 j) : EReal) = ∑ i : Fin 512, (m (ix2 i j) : EReal) := by
  pointwise []

/-- The sum of all entries. -/
theorem total (m : FVec Ideal S512x512 .f32) :
    (extractAt ![0, 0, 0] (shapeCast S1x1x1 (multiReduction .add [1, 2] S1 (shapeCast S1x512x512 m shapeCasts_S512x512_S1x512x512)
        0x00000000#32 reduces_S1x512x512_S1 (.inl rfl) rfl) shapeCasts_S1_S1x1x1) inpos_S1x1x1_p0_0_0 : EReal)
      = ∑ i : Fin 512, ∑ j : Fin 512, (m (ix2 i j) : EReal) := by
  pointwise []

/-- A column with a number added at node 0, cut off from below. -/
theorem col_rest (p : FVec Ideal S512x1 .f32) (s z c : EReal) (j : Fin 512) :
    (maximumf (F := Ideal) (φ := .f32) (addf p (select (cmpi .eq (iota .tc S512x1 32 [0] iota_S512x1_d0_w32) (broadcast S512x1 0#32))
        (broadcast S512x1 s) (broadcast S512x1 z))) (broadcast S512x1 c) (ix2 j 0) : EReal)
      = max ((p (ix2 j 0) : EReal) + if j = 0 then s else z) c := by
  rw [← pick, ← is_zero]
  pointwise []

/-- The inverse roots of a row with a number added at node 0, cut off from below. -/
theorem row_rest (p : FVec Ideal S1x512 .f32) (s z c : EReal) (j : Fin 512) :
    (rsqrt (F := Ideal) (φ := .f32) (maximumf (addf p (select (cmpi .eq (iota .tc S1x512 32 [1] iota_S1x512_d1_w32)
        (broadcast S1x512 0#32)) (broadcast S1x512 s) (broadcast S1x512 z))) (broadcast S1x512 c)) (ix2 0 j) : EReal)
      = Ideal.rsqrt (max ((p (ix2 0 j) : EReal) + if j = 0 then s else z) c) := by
  rw [← pick, ← is_zero]
  pointwise []

/-- The difference of two numbers. -/
theorem less (c y : EReal) : Scalar.subf (F := Ideal) (φ := .f32) c y = c - y := rfl

/-- The number of missing edges, as the kernel subtracts it. -/
theorem fill_raw (x : Vec Ideal S512x512 .f32) :
    (k0_pay3 x : EReal)
      = Scalar.ofBits (F := Ideal) .f32 0x48800000#32 - ∑ i : Fin 512, ∑ j : Fin 512, (k0_pay2 x (ix2 i j) : EReal) := by
  unfold k0_pay3
  generalize k0_pay2 x = m
  dsimp only
  generalize Scalar.ofBits (F := Ideal) .f32 0x48800000#32 = c
  rw [total]
  exact less c _

/-- The degree column, as the kernel adds it up. -/
theorem col_raw (x : Vec Ideal S512x512 .f32) (j : Fin 512) :
    (k0_pay4 x (ix2 j 0) : EReal)
      = max ((∑ i : Fin 512, (k0_pay2 x (ix2 i j) : EReal) * Scalar.ofBits (F := Ideal) .f32 0x3F800000#32)
          + if j = 0 then (k0_pay3 x : EReal) else Scalar.ofBits (F := Ideal) .f32 0x00000000#32)
        (Scalar.ofBits (F := Ideal) .f32 0x3F800000#32) := by
  unfold k0_pay4
  generalize k0_pay2 x = m
  generalize k0_pay3 x = s
  dsimp only
  generalize Scalar.ofBits (F := Ideal) .f32 0x3F800000#32 = c
  generalize Scalar.ofBits (F := Ideal) .f32 0x00000000#32 = z
  rw [← col_sum]
  exact col_rest _ s z c j

/-- The inverse roots along the row, as the kernel adds them up. -/
theorem row_raw (x : Vec Ideal S512x512 .f32) (j : Fin 512) :
    (k0_pay6 x (ix2 0 j) : EReal)
      = Ideal.rsqrt (max ((∑ i : Fin 512, (k0_pay2 x (ix2 i j) : EReal))
          + if j = 0 then (k0_pay3 x : EReal) else Scalar.ofBits (F := Ideal) .f32 0x00000000#32)
        (Scalar.ofBits (F := Ideal) .f32 0x3F800000#32)) := by
  unfold k0_pay6
  generalize k0_pay2 x = m
  generalize k0_pay3 x = s
  dsimp only
  generalize Scalar.ofBits (F := Ideal) .f32 0x3F800000#32 = c
  generalize Scalar.ofBits (F := Ideal) .f32 0x00000000#32 = z
  rw [← row_sum]
  exact row_rest _ s z c j

/-- The degree of node 0, read off the column. -/
theorem corner_raw (x : Vec Ideal S512x512 .f32) : (k0_pay7 x : EReal) = k0_pay4 x (ix2 0 0) := by
  unfold k0_pay7
  generalize k0_pay4 x = m
  pointwise []
  simp only [is_zero, pick, Finset.sum_const, Finset.card_univ, Fintype.card_fin, one_smul, Finset.sum_ite_eq', Finset.sum_ite_eq,
    Finset.mem_univ, if_true]

/-- The scaled mask with its correction. -/
theorem scaled_raw (m : FVec Ideal S512x512 .f32) (s : EReal) (r : FVec Ideal S512x1 .f32) (r' : FVec Ideal S1x512 .f32) (d : EReal)
    (i j : Fin 512) :
    (k0_pay8 (F := Ideal) m s (iota Kind.tc S512x1 32 [0] iota_S512x1_d0_w32) (iota Kind.tc S1x512 32 [1] iota_S1x512_d1_w32) r r' d
        (ix2 i j) : EReal)
      = (m (ix2 i j) : EReal) * ((r (ix2 i 0) : EReal) * (r' (ix2 0 j) : EReal)) + if i = 0 ∧ j = 0 then Ideal.div s d else 0 := by
  unfold k0_pay8
  rw [← pick, ← both, ← is_zero, ← is_zero]
  pointwise []

/-! ### The mathematics of the sums -/

/-- A sum of a mask's column is the number of edges into the node. -/
theorem mask_col (A : Fin 512 → Fin 512 → EReal) (j : Fin 512) :
    (∑ i : Fin 512, if A i j ≠ 0 then (1 : EReal) else 0) = ((indeg A j : ℕ) : EReal) := by
  unfold indeg
  rw [Finset.card_filter, Nat.cast_sum]
  exact Finset.sum_congr rfl fun i _ => by split <;> simp

/-- No graph has more edges than slots. -/
theorem edges_le (A : Fin 512 → Fin 512 → EReal) : edges A ≤ 512 * 512 := by
  unfold edges
  refine (Finset.sum_le_card_nsmul _ _ 512 fun j _ => ?_).trans_eq ?_
  · exact (Finset.card_le_univ _).trans_eq (Fintype.card_fin 512)
  · rw [Finset.card_univ, Fintype.card_fin, smul_eq_mul]

/-- A difference of naturals, among the extended reals. -/
theorem nat_less (a b : ℕ) (h : b ≤ a) : ((a : ℝ) : EReal) - ((b : ℕ) : EReal) = ((a - b : ℕ) : EReal) := by
  have e : ∀ k : ℕ, ((k : ℕ) : EReal) = ((k : ℝ) : EReal) := fun k => (EReal.coe_natCast).symm
  rw [e, e, ← EReal.coe_sub, Nat.cast_sub h]

/-- The missing edges, among the extended reals. -/
theorem absent_eq (A : Fin 512 → Fin 512 → EReal) :
    ((262144 : ℝ) : EReal) - ∑ i : Fin 512, ∑ j : Fin 512, (if A i j ≠ 0 then (1 : EReal) else 0) = ((absent A : ℕ) : EReal) := by
  rw [Finset.sum_comm, Finset.sum_congr rfl fun j _ => mask_col A j, ← Nat.cast_sum]
  have h := nat_less (512 * 512) (edges A) (edges_le A)
  rw [show (((512 * 512 : ℕ) : ℝ) : EReal) = ((262144 : ℝ) : EReal) from by norm_num] at h
  exact h

/-- The degree, as a number cut off from below. -/
theorem deg_eq (A : Fin 512 → Fin 512 → EReal) (j : Fin 512) :
    max (((indeg A j : ℕ) : EReal) + if j = 0 then ((absent A : ℕ) : EReal) else 0) 1 = ((deg A j : ℝ) : EReal) := by
  unfold deg
  generalize absent A = a
  generalize indeg A j = d
  rw [EReal.coe_strictMono.monotone.map_max, EReal.coe_one]
  refine congrArg (fun u => max u (1 : EReal)) ?_
  by_cases h : j = 0
  · rw [if_pos h, if_pos h, EReal.coe_natCast, Nat.cast_add]
  · rw [if_neg h, if_neg h, EReal.coe_natCast, add_zero, add_zero]

/-- The product of an inverse root with itself is the inverse of the degree. -/
theorem invRoot_sq (A : Fin 512 → Fin 512 → EReal) (j : Fin 512) : invRoot A j * invRoot A j = (deg A j)⁻¹ := by
  have h1 : (1 : ℝ) ≤ deg A j := le_max_right _ _
  rw [invRoot, ← mul_inv, Real.mul_self_sqrt (by linarith)]

/-- A number divided by a degree. -/
theorem over_deg (A : Fin 512 → Fin 512 → EReal) (a : ℕ) :
    Ideal.div ((a : ℕ) : EReal) ((deg A 0 : ℝ) : EReal) = (((a : ℝ) * (invRoot A 0 * invRoot A 0) : ℝ) : EReal) := by
  have h1 : (1 : ℝ) ≤ deg A 0 := le_max_right _ _
  rw [invRoot_sq]
  generalize deg A 0 = d at h1 ⊢
  rw [Ideal.div, if_neg (by rw [EReal.coe_eq_zero]; linarith), ← EReal.coe_natCast, ← EReal.coe_inv, ← EReal.coe_mul]

/-! ### The weights -/

/-- The word of one is one. -/
theorem one_is : (Scalar.ofBits (F := Ideal) .f32 0x3F800000#32 : EReal) = 1 := Ideal.ofBits_one_f32

/-- The word of zero is zero. -/
theorem zero_is : (Scalar.ofBits (F := Ideal) .f32 0x00000000#32 : EReal) = 0 := Ideal.ofBits_zero_f32

/-- The word of the number of slots is 512 · 512. -/
theorem slots_is : (Scalar.ofBits (F := Ideal) .f32 0x48800000#32 : EReal) = ((262144 : ℝ) : EReal) := by
  show Ideal.ofBits .f32 0x48800000#32 = _
  simp [Ideal.ofBits, Ideal.ieee, -EReal.coe_mul]
  norm_num

/-- The kernel's number of missing edges. -/
theorem fill_at (x : Vec Ideal S512x512 .f32) : (k0_pay3 x : EReal) = ((absent (graph x) : ℕ) : EReal) := by
  rw [fill_raw, slots_is, ← absent_eq]
  exact congrArg (((262144 : ℝ) : EReal) - ·) (Finset.sum_congr rfl fun i _ => Finset.sum_congr rfl fun j _ => mask_at x i j)

/-- The kernel's column of degrees. -/
theorem col_at (x : Vec Ideal S512x512 .f32) (j : Fin 512) : (k0_pay4 x (ix2 j 0) : EReal) = ((deg (graph x) j : ℝ) : EReal) := by
  rw [col_raw, fill_at, one_is, zero_is, ← deg_eq, ← mask_col]
  generalize absent (graph x) = a
  simp only [mul_one, mask_at]

/-- The kernel's column of inverse roots. -/
theorem root_col (x : Vec Ideal S512x512 .f32) (j : Fin 512) : (k0_pay5 x (ix2 j 0) : EReal) = (invRoot (graph x) j : EReal) := by
  have h : (k0_pay5 x (ix2 j 0) : EReal) = Ideal.rsqrt (k0_pay4 x (ix2 j 0)) := by
    unfold k0_pay5
    generalize k0_pay4 x = d
    rfl
  rw [h, col_at, rsqrt_deg]

/-- The kernel's row of inverse roots. -/
theorem root_row (x : Vec Ideal S512x512 .f32) (j : Fin 512) : (k0_pay6 x (ix2 0 j) : EReal) = (invRoot (graph x) j : EReal) := by
  rw [row_raw, fill_at, one_is, zero_is, ← rsqrt_deg, ← deg_eq, ← mask_col]
  generalize absent (graph x) = a
  simp only [mask_at]

/-- **The weights.** The matrix the kernel multiplies the features by is the graph's weights. -/
theorem weight_at (x : Vec Ideal S512x512 .f32) (i j : Fin 512) :
    (k0_pay8 (F := Ideal) (k0_pay2 x) (k0_pay3 x) (iota Kind.tc S512x1 32 [0] iota_S512x1_d0_w32)
        (iota Kind.tc S1x512 32 [1] iota_S1x512_d1_w32) (k0_pay5 x) (k0_pay6 x) (k0_pay7 x) (ix2 i j) : EReal)
      = ((weight (graph x) i j : ℝ) : EReal) := by
  rw [scaled_raw, fill_at, corner_raw, col_at, over_deg, root_col, root_row, mask_at]
  unfold weight
  generalize absent (graph x) = a
  generalize invRoot (graph x) = r
  rw [EReal.coe_add]
  refine congrArg₂ (· + ·) ?_ ?_
  · by_cases h : graph x i j ≠ 0
    · rw [if_pos h, if_pos h, one_mul, EReal.coe_mul]
    · rw [if_neg h, if_neg h, zero_mul, EReal.coe_zero]
  · by_cases h : i = 0 ∧ j = 0
    · rw [if_pos h, if_pos h]
    · rw [if_neg h, if_neg h, EReal.coe_zero]

end Cert.Encoder.Ker
-- ==== Proof.KerParts.lean ====
/-
  The kernel's buffers, part by part: the two tiles a buffer is stored by, the loads out of the buffers, and the output tile of one
  batch element once its parts are known.
-/
module

public import proofs.«01_k».proof.Proof.KerFeat
public import proofs.«01_k».proof.Proof.KerRows
public import proofs.«01_k».proof.Proof.KerTile
public import proofs.«01_k».proof.Proof.KerGraph

@[expose] public section

set_option maxRecDepth 16384

noncomputable section

namespace Cert.Encoder.Ker

open Cert.KernelIdeal Cert.KernelIdeal.Gen
open Idealize.ShloMosaic Idealize.ShloMosaic.Tactic

/-! ### A buffer stored by two tiles -/

/-- The place of a tile's entry in the buffer. -/
theorem tile_place (b : ℕ) (inb : ∀ a, (![b, 0, 0, 0] : Fin 4 → ℕ) a + S1x12x512x64.size a ≤ S2x12x512x64.size a)
    (x : (Rect.unit (s := S2x12x512x64) ![b, 0, 0, 0] S1x12x512x64.size inb).shape.Idx) :
    (Rect.unit (s := S2x12x512x64) ![b, 0, 0, 0] S1x12x512x64.size inb).idx x
      = ix4 (n0 := 2) (n1 := 12) (n2 := 512) (n3 := 64) ⟨b, inb 0⟩ (x 1) (x 2) (x 3) := by
  funext a
  refine Fin.ext ((Rect.idx_unit_val _ _ inb x a).trans ?_)
  have h0 : ((x 0 : Fin 1) : ℕ) < 1 := (x 0).isLt
  fin_cases a
  · show b + ((x 0 : Fin 1) : ℕ) = b; omega
  · show 0 + ((x 1 : Fin 12) : ℕ) = (x 1 : Fin 12); omega
  · show 0 + ((x 2 : Fin 512) : ℕ) = (x 2 : Fin 512); omega
  · show 0 + ((x 3 : Fin 64) : ℕ) = (x 3 : Fin 64); omega

/-- A tile's index has first coordinate zero. -/
theorem tile_index (x : S1x12x512x64.Idx) : x = ix4 (n0 := 1) (n1 := 12) (n2 := 512) (n3 := 64) 0 (x 1) (x 2) (x 3) := by
  funext a
  fin_cases a
  · exact Subsingleton.elim (α := Fin 1) _ _
  · rfl
  · rfl
  · rfl

/-- The two stores into a buffer, the last one first. -/
def tiles (w1 w0 : S1x12x512x64.Idx → EReal) : List (View.Piece (Elt Ideal) S2x12x512x64 .f32) :=
  [⟨Rect.unit ![1, 0, 0, 0] S1x12x512x64.size inb_S2x12x512x64_S1x12x512x64_1_0_0_0, w1⟩,
    ⟨Rect.unit ![0, 0, 0, 0] S1x12x512x64.size inb_S2x12x512x64_S1x12x512x64_0_0_0_0, w0⟩]

/-- A buffer stored by one tile for each batch element holds a function of the index if each tile does. -/
theorem two_tiles (w1 w0 : S1x12x512x64.Idx → EReal) (G : Fin 2 → Fin 12 → Fin 512 → Fin 64 → EReal)
    (h0 : ∀ t n f, w0 (ix4 0 t n f) = G 0 t n f) (h1 : ∀ t n f, w1 (ix4 0 t n f) = G 1 t n f) (y : S2x12x512x64.Idx) :
    View.canon (tiles w1 w0) y = G (y 0) (y 1) (y 2) (y 3) := by
  refine View.canon_apply_of_pieces (Val := Elt Ideal) (fun y => G (y 0) (y 1) (y 2) (y 3)) _ ?_ y
    (View.cover_of_tiledL (tiles w1 w0) S1x12x512x64.size (by sl_kernel_rfl) y)
  unfold tiles
  refine List.forall_mem_cons.2 ⟨fun x => ?_, List.forall_mem_cons.2 ⟨fun x => ?_, fun p hp => absurd hp List.not_mem_nil⟩⟩
  · exact ((congrArg w1 (tile_index x)).trans (h1 _ _ _)).trans
      (congrArg (fun y : S2x12x512x64.Idx => G (y 0) (y 1) (y 2) (y 3)) (tile_place 1 inb_S2x12x512x64_S1x12x512x64_1_0_0_0 x)).symm
  · exact ((congrArg w0 (tile_index x)).trans (h0 _ _ _)).trans
      (congrArg (fun y : S2x12x512x64.Idx => G (y 0) (y 1) (y 2) (y 3)) (tile_place 0 inb_S2x12x512x64_S1x12x512x64_0_0_0_0 x)).symm

/-! ### The loads -/

/-- One element's features, loaded back. -/
theorem load_feats (v : View sig .tc .vmem S2x12x512x64 .f32) (w1 w0 : S1x12x512x64.Idx → EReal)
    (G : Fin 2 → Fin 12 → Fin 512 → Fin 64 → EReal) (h0 : ∀ t n f, w0 (ix4 0 t n f) = G 0 t n f)
    (h1 : ∀ t n f, w1 (ix4 0 t n f) = G 1 t n f) (b : ℕ)
    (inb : ∀ a, (![b, 0, 0, 0] : Fin 4 → ℕ) a + S1x12x512x64.size a ≤ S2x12x512x64.size a) (t : Fin 12) (n : Fin 512) (f : Fin 64) :
    (v.readCov (Val := Elt Ideal) (tiles w1 w0) (Rect.unit (s := S2x12x512x64) ![b, 0, 0, 0] S1x12x512x64.size inb).toLoadRect (ix4 0 t n f) : EReal) = G ⟨b, inb 0⟩ t n f := by
  rw [View.readCov_eq_canon']
  refine (two_tiles w1 w0 G h0 h1 _).trans ?_
  exact congrArg (fun y : S2x12x512x64.Idx => G (y 0) (y 1) (y 2) (y 3)) (tile_place b inb (ix4 0 t n f))

/-- Twelve rows of the table, loaded from row `k` on. -/
theorem load_rows (v : View sig .tc .vmem S2x14x512x64 .f32) (L : List (View.Piece (Elt Ideal) S2x14x512x64 .f32))
    (G : S2x14x512x64.Idx → EReal) (hL : ∀ y, View.canon L y = G y) (b k : ℕ)
    (inb : ∀ a, (![b, k, 0, 0] : Fin 4 → ℕ) a + S1x12x512x64.size a ≤ S2x14x512x64.size a) (t : Fin 12) (n : Fin 512) (f : Fin 64)
    (hk : (t : ℕ) + k < 14) :
    (v.readCov (Val := Elt Ideal) L (Rect.unit (s := S2x14x512x64) ![b, k, 0, 0] S1x12x512x64.size inb).toLoadRect (ix4 0 t n f) : EReal)
      = G (ix4 ⟨b, inb 0⟩ ⟨t + k, hk⟩ n f) := by
  rw [View.readCov_eq_canon']
  refine (hL _).trans (congrArg G ?_)
  funext a
  refine Fin.ext ((Rect.idx_unit_val _ _ inb (ix4 0 t n f) a).trans ?_)
  fin_cases a
  · show b + 0 = b; omega
  · show k + (t : ℕ) = t + k; omega
  · show 0 + (n : ℕ) = n; omega
  · show 0 + (f : ℕ) = f; omega

/-- One element's columns, loaded from the copy of the input. -/
theorem load_input (v : View sig .tc .vmem S2x512x768 .f32) (X : Vec Ideal S2x512x768 .f32) (b : ℕ)
    (inb : ∀ a, (![b, 0, 0] : Fin 3 → ℕ) a + S1x512x768.size a ≤ S2x512x768.size a) (n : Fin 512) (c : Fin 768) :
    (v.readCov (Val := Elt Ideal) [⟨Rect.whole S2x512x768, X⟩] (Rect.unit (s := S2x512x768) ![b, 0, 0] S1x512x768.size inb).toLoadRect (ix3 0 n c) : EReal)
      = X (ix3 ⟨b, inb 0⟩ n c) := by
  rw [View.readCov_eq_canon']
  have e : (Rect.unit (s := S2x512x768) ![b, 0, 0] S1x512x768.size inb).toLoadRect.idx (ix3 0 n c)
      = (Rect.whole S2x512x768).emb (ix3 ⟨b, inb 0⟩ n c) := by
    rw [Rect.emb_whole_apply]
    funext a
    refine Fin.ext ((Rect.idx_unit_val _ _ inb (ix3 0 n c) a).trans ?_)
    fin_cases a
    · show b + 0 = b; omega
    · show 0 + (n : ℕ) = n; omega
    · show 0 + (c : ℕ) = c; omega
  show View.canon _ _ = _
  rw [e]
  exact View.canon_cons_emb (Val := Elt Ideal) (Rect.whole S2x512x768) X [] (ix3 ⟨b, inb 0⟩ n c)

/-- One tap of the temporal kernel, loaded. -/
theorem load_tap (w : Vec Ideal S3x64x64 .f32) (k : ℕ)
    (inb : ∀ a, (![k, 0, 0] : Fin 3 → ℕ) a + S1x64x64.size a ≤ S3x64x64.size a) (g f : Fin 64) :
    (View.ld (Val := Elt Ideal) (e' := .f32) w (Rect.unit (s := S3x64x64) ![k, 0, 0] S1x64x64.size inb) (ix3 0 g f) : EReal) = w (ix3 ⟨k, inb 0⟩ g f) := by
  refine View.ld_unit_apply_of (Val := Elt Ideal) w _ _ inb (ix3 0 g f) (ix3 ⟨k, inb 0⟩ g f) fun a => ?_
  fin_cases a
  · show k = k + 0; omega
  · show (g : ℕ) = 0 + g; omega
  · show (f : ℕ) = 0 + f; omega

/-! ### The products with the features -/

/-- The first element's features, stored. -/
theorem feats_tile (g h : FVec Ideal S6144x64 .f32) (t : Fin 12) (n : Fin 512) (d : Fin 64) :
    (k0_pay16 g h (ix4 0 t n d) : EReal) = k0_pay15 g h (ix2 (row t n) d) := by
  unfold k0_pay16 row
  generalize k0_pay15 g h = p
  pointwise []

/-- The second element's features, stored. -/
theorem feats_tile' (b : FVec Ideal S1x64 .f32) (x : Vec Ideal S1x512x768 .f32) (W : Vec Ideal S64x64 .f32) (t : Fin 12) (n : Fin 512)
    (d : Fin 64) : (k0_pay46 b x W (ix4 0 t n d) : EReal) = k0_pay45 b x W (ix2 (row t n) d) := by
  unfold k0_pay46 row
  generalize k0_pay45 b x W = p
  pointwise []

/-- The first element's features by the node's own map. -/
theorem own_at (g h : FVec Ideal S6144x64 .f32) (θ : Vec Ideal S64x64 .f32) (t : Fin 12) (n : Fin 512) (f : Fin 64) :
    (k0_pay17 g h θ (ix3 t n f) : EReal) = ∑ d : Fin 64, k0_pay15 g h (ix2 (row t n) d) * θ (ix2 d f) := by
  unfold k0_pay17 row
  generalize k0_pay15 g h = p
  pointwise []

/-- The first element's features by the neighbours' map. -/
theorem nbr_at (g h : FVec Ideal S6144x64 .f32) (θ : Vec Ideal S64x64 .f32) (t : Fin 12) (n : Fin 512) (f : Fin 64) :
    (k0_pay18 g h θ (ix3 t n f) : EReal) = ∑ d : Fin 64, k0_pay15 g h (ix2 (row t n) d) * θ (ix2 d f) := by
  unfold k0_pay18 row
  generalize k0_pay15 g h = p
  pointwise []

/-- The second element's features by the node's own map. -/
theorem own_at' (p : FVec Ideal S6144x64 .f32) (θ : Vec Ideal S64x64 .f32) (t : Fin 12) (n : Fin 512) (f : Fin 64) :
    (k0_pay47 p θ (ix3 t n f) : EReal) = ∑ d : Fin 64, p (ix2 (row t n) d) * θ (ix2 d f) := by
  unfold k0_pay47 row
  pointwise []

/-- The second element's features by the neighbours' map. -/
theorem nbr_at' (p : FVec Ideal S6144x64 .f32) (θ : Vec Ideal S64x64 .f32) (t : Fin 12) (n : Fin 512) (f : Fin 64) :
    (k0_pay48 p θ (ix3 t n f) : EReal) = ∑ d : Fin 64, p (ix2 (row t n) d) * θ (ix2 d f) := by
  unfold k0_pay48 row
  pointwise []

/-! ### One batch element -/

variable (D : Data)

/-- The table holds the padded steps of the graph convolution, once the products and the weights are known. -/
theorem table_at (A : FVec Ideal S512x512 .f32) (p q p' q' : FVec Ideal S12x512x64 .f32)
    (hA : ∀ i j, (A (ix2 i j) : EReal) = ((weight D.A i j : ℝ) : EReal))
    (hp : ∀ t n f, (p (ix3 t n f) : EReal) = ∑ d, feat D 0 n t d * D.θ0 d f)
    (hq : ∀ t n f, (q (ix3 t n f) : EReal) = ∑ d, feat D 0 n t d * D.θ1 d f)
    (hp' : ∀ t n f, (p' (ix3 t n f) : EReal) = ∑ d, feat D 1 n t d * D.θ0 d f)
    (hq' : ∀ t n f, (q' (ix3 t n f) : EReal) = ∑ d, feat D 1 n t d * D.θ1 d f)
    (b : Fin 2) (k : Fin 14) (n : Fin 512) (g : Fin 64) :
    table A p q p' q' (ix4 b k n g) = padded (fun u => spatialK D b n u g) k := by
  have h0 : ∀ u, spat A p q u n g = spatialK D 0 n u g := fun u => by
    unfold spat spatialK
    rw [hp]
    exact congrArg (fun z : EReal => max (_ + z) 0) (Finset.sum_congr rfl fun i _ => by rw [hA, hq])
  have h1 : ∀ u, spat A p' q' u n g = spatialK D 1 n u g := fun u => by
    unfold spat spatialK
    rw [hp']
    exact congrArg (fun z : EReal => max (_ + z) 0) (Finset.sum_congr rfl fun i _ => by rw [hA, hq'])
  show padded (fun u => if ((b : Fin 2) : ℕ) = 0 then spat A p q u n g else spat A p' q' u n g) k = _
  refine congrArg (fun s => padded s k) (funext fun u => ?_)
  rw [h0, h1]
  fin_cases b
  · exact if_pos rfl
  · exact if_neg Nat.one_ne_zero

/-- The output tile of element `b`. -/
theorem element (b : Fin 2) (s0 s1 s2 ft : Vec Ideal S1x12x512x64 .f32) (w0 w1 w2 : Vec Ideal S1x64x64 .f32)
    (bt γ β : FVec Ideal S1x64 .f32) (Wr : Vec Ideal S64x64 .f32)
    (hs0 : ∀ (t : Fin 12) n g, (s0 (ix4 0 t n g) : EReal) = padded (fun u => spatialK D b n u g) t)
    (hs1 : ∀ (t : Fin 12) n g, (s1 (ix4 0 t n g) : EReal) = padded (fun u => spatialK D b n u g) (t + 1))
    (hs2 : ∀ (t : Fin 12) n g, (s2 (ix4 0 t n g) : EReal) = padded (fun u => spatialK D b n u g) (t + 2))
    (hw0 : ∀ g f, (w0 (ix3 0 g f) : EReal) = D.Wt f g 0) (hw1 : ∀ g f, (w1 (ix3 0 g f) : EReal) = D.Wt f g 1)
    (hw2 : ∀ g f, (w2 (ix3 0 g f) : EReal) = D.Wt f g 2)
    (hft : ∀ t n d, (ft (ix4 0 t n d) : EReal) = feat D b n t d)
    (hbt : ∀ f, (bt (ix2 0 f) : EReal) = D.bt f) (hγ : ∀ f, (γ (ix2 0 f) : EReal) = D.γ f) (hβ : ∀ f, (β (ix2 0 f) : EReal) = D.β f)
    (hWr : ∀ d f, (Wr (ix2 d f) : EReal) = D.Wr d f) (t : Fin 12) (n : Fin 512) (f : Fin 64) :
    (tile bt γ β (k0_pay74 s0 w0 s1 w1 s2 w2) ft Wr (ix4 0 t n f) : EReal) = outK D b n t f := by
  rw [tile_at bt γ β _ ft Wr t n f (mixed D (spatialK D) b n t) fun g => ?_]
  · rw [hγ, hβ]
    rfl
  · rw [preNorm_at, conv_at]
    unfold mixed
    simp only [hs0, hs1, hs2, hw0, hw1, hw2, hft, hbt, hWr]

end Cert.Encoder.Ker
-- ==== Proof.KerOut.lean ====
/-
  What the kernel's body leaves in its output block: the encoder of the blocks it is given.
-/
module

public import proofs.«01_k».proof.Proof.KerParts

@[expose] public section

set_option maxRecDepth 16384

noncomputable section

namespace Cert.Encoder.Ker

open Cert.KernelIdeal Cert.KernelIdeal.Gen
open Idealize.ShloMosaic Idealize.ShloMosaic.TcCoe Idealize.ShloMosaic.Tactic
open Idealize.SL
open Idealize.ShloMosaic (Ideal)

/-- The network the blocks stand for: `x0` the adjacency, `x1`, `x2` the first map, `x3`, `x4` the graph convolution's maps, `x5` the
    temporal kernel by tap, input and output feature, `x6` its bias, `x7` the residual map, `x8`, `x9` the layer norm's scale and
    shift, `X` the input with its steps side by side. -/
def blocks (x0 : Vec Ideal S512x512 .f32) (x1 : Vec Ideal S64x64 .f32) (x2 : Vec Ideal S1x64 .f32) (x3 x4 : Vec Ideal S64x64 .f32)
    (x5 : Vec Ideal S3x64x64 .f32) (x6 : Vec Ideal S1x64 .f32) (x7 : Vec Ideal S64x64 .f32) (x8 x9 : Vec Ideal S1x64 .f32)
    (X : Vec Ideal S2x512x768 .f32) : Data where
  X b n t e := X (ix3 b n ⟨64 * t + e, by omega⟩)
  A := graph x0
  W1 e d := x1 (ix2 e d)
  b1 d := x2 (ix2 0 d)
  θ0 d f := x3 (ix2 d f)
  θ1 d f := x4 (ix2 d f)
  Wt f g k := x5 (ix3 k g f)
  bt f := x6 (ix2 0 f)
  Wr d f := x7 (ix2 d f)
  γ f := x8 (ix2 0 f)
  β f := x9 (ix2 0 f)

/-- The temporal bias the body uses, at a feature. -/
theorem bias_at (b : Vec Ideal S1x64 .f32) (f : Fin 64) : (k0_pay10 b (ix2 0 f) : EReal) = b (ix2 0 f) := by
  unfold k0_pay10
  pointwise []

/-- The scale the body uses, at a feature. -/
theorem scale_at (b : Vec Ideal S1x64 .f32) (f : Fin 64) : (k0_pay11 b (ix2 0 f) : EReal) = b (ix2 0 f) := by
  unfold k0_pay11
  pointwise []

/-- The shift the body uses, at a feature. -/
theorem shift_at (b : Vec Ideal S1x64 .f32) (f : Fin 64) : (k0_pay12 b (ix2 0 f) : EReal) = b (ix2 0 f) := by
  unfold k0_pay12
  pointwise []

variable
    (c : Dev nD) (arg1 : Memref sig .tc .vmem S512x512 .f32) (harg1 : arg1.IsWhole) (arg2 : Memref sig .tc .vmem S64x64 .f32) (harg2 :
    arg2.IsWhole) (arg3 : Memref sig .tc .vmem S1x64 .f32) (harg3 : arg3.IsWhole) (arg4 : Memref sig .tc .vmem S64x64 .f32) (harg4 :
    arg4.IsWhole) (arg5 : Memref sig .tc .vmem S64x64 .f32) (harg5 : arg5.IsWhole) (arg6 : Memref sig .tc .vmem S3x64x64 .f32) (harg6
    : arg6.IsWhole) (arg7 : Memref sig .tc .vmem S1x64 .f32) (harg7 : arg7.IsWhole) (arg8 : Memref sig .tc .vmem S64x64 .f32) (harg8 :
    arg8.IsWhole) (arg9 : Memref sig .tc .vmem S1x64 .f32) (harg9 : arg9.IsWhole) (arg10 : Memref sig .tc .vmem S1x64 .f32) (harg10 :
    arg10.IsWhole) (arg11 : Memref sig .tc .vmem S2x12x512x64 .f32) (harg11 : arg11.IsWhole) (arg12 : Memref sig .tc .vmem S2x512x768
    .f32) (harg12 : arg12.IsWhole) (arg13 : Memref sig .tc .vmem S2x14x512x64 .f32) (harg13 : arg13.IsWhole) (arg14 : Memref sig .tc
    .vmem S2x12x512x64 .f32) (harg14 : arg14.IsWhole)     (x0 : Vec Ideal S512x512 .f32) (x1 : Vec Ideal S64x64 .f32) (x2 : Vec Ideal
    S1x64 .f32) (x3 : Vec Ideal S64x64 .f32) (x4 : Vec Ideal S64x64 .f32) (x5 : Vec Ideal S3x64x64 .f32) (x6 : Vec Ideal S1x64 .f32)
    (x7 : Vec Ideal S64x64 .f32) (x8 : Vec Ideal S1x64 .f32) (x9 : Vec Ideal S1x64 .f32) (fh0 : HbBuf0 (F := Ideal) c hbM0_0)

/-- **The body.** The output block at an index is the encoder of the blocks. -/
theorem out_at (y : S2x12x512x64.Idx) :
    (out0_A_10 c arg1 harg1 arg2 harg2 arg3 harg3 arg4 harg4 arg5 harg5 arg6 harg6 arg7 harg7 arg8 harg8 arg9 harg9 arg10 harg10 arg11
      harg11 arg12 harg12 arg13 harg13 arg14 harg14 x0 x1 x2 x3 x4 x5 x6 x7 x8 x9 fh0 y : EReal)
      = outK (blocks x0 x1 x2 x3 x4 x5 x6 x7 x8 x9 (View.read (Elt Ideal) (Memref.whole main_v0).view fh0)) (y 0) (y 2) (y 1) (y 3) := by
  unfold out0_A_10
  rw [View.read_writes_eq_canon _ _ _ (cover0_A_10 c arg1 harg1 arg2 harg2 arg3 harg3 arg4 harg4 arg5 harg5 arg6 harg6 arg7 harg7 arg8 harg8 arg9 harg9 arg10 harg10 arg11
      harg11 arg12 harg12 arg13 harg13 arg14 harg14 x0 x1 x2 x3 x4 x5 x6 x7 x8 x9 fh0)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread]
  generalize hA : k0_pay8 (F := Ideal) _ _ _ _ _ _ _ = A
  generalize hx3 : (View.ld x3 _) = θ0
  generalize hx4 : (View.ld x4 _) = θ1
  generalize hx2 : (View.ld x2 _) = b1
  generalize hx1 : (View.ld x1 _) = W1
  generalize hx6 : (View.ld x6 _) = bt
  generalize hx7 : (View.ld x7 _) = Wr
  generalize hx8 : (View.ld x8 _) = γ
  generalize hx9 : (View.ld x9 _) = β
  generalize hxa : (View.readCov (Val := Elt Ideal) arg12.view _ (Rect.unit ![0, 0, 0] _ _).toLoadRect) = xa
  generalize hxb : (View.readCov (Val := Elt Ideal) arg12.view _ (Rect.unit ![1, 0, 0] _ _).toLoadRect) = xb
  generalize h13 : k0_pay13 (F := Ideal) _ _ = g13
  generalize h14 : k0_pay14 (F := Ideal) _ = g14
  generalize h45 : k0_pay45 (F := Ideal) _ _ _ = g45
  replace hx3 : θ0 = x3 := hx3.symm.trans (View.ld_unit_zero (by funext i; fin_cases i <;> rfl) _ x3)
  replace hx4 : θ1 = x4 := hx4.symm.trans (View.ld_unit_zero (by funext i; fin_cases i <;> rfl) _ x4)
  replace hx2 : b1 = x2 := hx2.symm.trans (View.ld_unit_zero (by funext i; fin_cases i <;> rfl) _ x2)
  replace hx1 : W1 = x1 := hx1.symm.trans (View.ld_unit_zero (by funext i; fin_cases i <;> rfl) _ x1)
  replace hx6 : bt = x6 := hx6.symm.trans (View.ld_unit_zero (by funext i; fin_cases i <;> rfl) _ x6)
  replace hx7 : Wr = x7 := hx7.symm.trans (View.ld_unit_zero (by funext i; fin_cases i <;> rfl) _ x7)
  replace hx8 : γ = x8 := hx8.symm.trans (View.ld_unit_zero (by funext i; fin_cases i <;> rfl) _ x8)
  replace hx9 : β = x9 := hx9.symm.trans (View.ld_unit_zero (by funext i; fin_cases i <;> rfl) _ x9)
  rw [View.ld_unit_zero (by funext i; fin_cases i <;> rfl) _ x0] at hA
  generalize hX : View.read (Elt Ideal) (Memref.whole main_v0).view fh0 = X at hxa hxb ⊢
  subst hx1 hx2 hx3 hx4 hx6 hx7 hx8 hx9
  generalize hD : blocks x0 W1 b1 θ0 θ1 x5 bt Wr γ β X = D
  have eA : ∀ i j, (A (ix2 i j) : EReal) = ((weight D.A i j : ℝ) : EReal) := fun i j => by
    rw [← hA, ← hD]; exact weight_at x0 i j
  have ea : ∀ t n d, (k0_pay15 g13 g14 (ix2 (row t n) d) : EReal) = feat D 0 n t d := fun t n d => by
    rw [← h13, ← h14, ← hD]
    refine (feats_at xa W1 b1 t n d).trans ?_
    rw [← hxa]
    exact congrArg (fun z : EReal => z + _) (Finset.sum_congr rfl fun e _ => congrArg (fun z : EReal => z * _) (load_input arg12.view X 0 _ n _))
  have eb : ∀ t n d, (k0_pay45 (k0_pay9 b1) xb W1 (ix2 (row t n) d) : EReal) = feat D 1 n t d := fun t n d => by
    rw [feats_second, ← hD]
    refine (feats_at xb W1 b1 t n d).trans ?_
    rw [← hxb]
    exact congrArg (fun z : EReal => z + _) (Finset.sum_congr rfl fun e _ => congrArg (fun z : EReal => z * _) (load_input arg12.view X 1 _ n _))
  have eb' : ∀ t n d, (g45 (ix2 (row t n) d) : EReal) = feat D 1 n t d := fun t n d => by rw [← h45]; exact eb t n d
  have eT : ∀ y, View.canon (stores A g13 g14 g45 θ0 θ1) y
      = table A (k0_pay17 g13 g14 θ0) (k0_pay18 g13 g14 θ1) (k0_pay47 g45 θ0) (k0_pay48 g45 θ1) y := stores_eq A g13 g14 g45 θ0 θ1
  have eR : ∀ (b : Fin 2) (k : Fin 14) (n : Fin 512) (g : Fin 64),
      table A (k0_pay17 g13 g14 θ0) (k0_pay18 g13 g14 θ1) (k0_pay47 g45 θ0) (k0_pay48 g45 θ1) (ix4 b k n g)
        = padded (fun u => spatialK D b n u g) k :=
    table_at D A _ _ _ _ eA
      (fun t n f => (own_at g13 g14 θ0 t n f).trans (Finset.sum_congr rfl fun d _ => by rw [ea, ← hD]; rfl))
      (fun t n f => (nbr_at g13 g14 θ1 t n f).trans (Finset.sum_congr rfl fun d _ => by rw [ea, ← hD]; rfl))
      (fun t n f => (own_at' g45 θ0 t n f).trans (Finset.sum_congr rfl fun d _ => by rw [eb', ← hD]; rfl))
      (fun t n f => (nbr_at' g45 θ1 t n f).trans (Finset.sum_congr rfl fun d _ => by rw [eb', ← hD]; rfl))
  have f0 : ∀ t n d, (k0_pay16 g13 g14 (ix4 0 t n d) : EReal) = feat D 0 n t d := fun t n d => (feats_tile g13 g14 t n d).trans (ea t n d)
  have f1 : ∀ t n d, (k0_pay46 (k0_pay9 b1) xb W1 (ix4 0 t n d) : EReal) = feat D 1 n t d :=
    fun t n d => (feats_tile' (k0_pay9 b1) xb W1 t n d).trans (eb t n d)
  have w0 : ∀ g f, (View.ld x5 (Rect.unit ![0, 0, 0] S1x64x64.size inb_S3x64x64_S1x64x64_0_0_0) (ix3 0 g f) : EReal) = D.Wt f g 0 :=
    fun g f => by rw [← hD]; exact load_tap x5 0 _ g f
  have w1 : ∀ g f, (View.ld x5 (Rect.unit ![1, 0, 0] S1x64x64.size inb_S3x64x64_S1x64x64_1_0_0) (ix3 0 g f) : EReal) = D.Wt f g 1 :=
    fun g f => by rw [← hD]; exact load_tap x5 1 _ g f
  have w2 : ∀ g f, (View.ld x5 (Rect.unit ![2, 0, 0] S1x64x64.size inb_S3x64x64_S1x64x64_2_0_0) (ix3 0 g f) : EReal) = D.Wt f g 2 :=
    fun g f => by rw [← hD]; exact load_tap x5 2 _ g f
  have ebt : ∀ f, (k0_pay10 bt (ix2 0 f) : EReal) = D.bt f := fun f => by rw [bias_at, ← hD]; rfl
  have eγ : ∀ f, (k0_pay11 γ (ix2 0 f) : EReal) = D.γ f := fun f => by rw [scale_at, ← hD]; rfl
  have eβ : ∀ f, (k0_pay12 β (ix2 0 f) : EReal) = D.β f := fun f => by rw [shift_at, ← hD]; rfl
  have eWr : ∀ d f, (Wr (ix2 d f) : EReal) = D.Wr d f := fun d f => by rw [← hD]; rfl
  refine two_tiles _ _ (fun b t n f => outK D b n t f) (fun t n f => ?_) (fun t n f => ?_) y
  · refine (congrFun (tile_first _ _ _ _ _ _) _).trans
      (element D 0 _ _ _ _ _ _ _ _ _ _ _ ?_ ?_ ?_ w0 w1 w2 ?_ ebt eγ eβ eWr t n f)
    · exact fun t n g => (load_rows arg13.view (stores A g13 g14 g45 θ0 θ1) _ eT 0 0 _ t n g (by omega)).trans (eR 0 _ n g)
    · exact fun t n g => (load_rows arg13.view (stores A g13 g14 g45 θ0 θ1) _ eT 0 1 _ t n g (by omega)).trans (eR 0 _ n g)
    · exact fun t n g => (load_rows arg13.view (stores A g13 g14 g45 θ0 θ1) _ eT 0 2 _ t n g (by omega)).trans (eR 0 _ n g)
    · exact fun t n d => load_feats arg14.view _ _ (fun b t n d => feat D b n t d) f0 f1 0 _ t n d
  · refine (congrFun (tile_second _ _ _ _ _ _ _ _ _ _ _) _).trans
      (element D 1 _ _ _ _ _ _ _ _ _ _ _ ?_ ?_ ?_ w0 w1 w2 ?_ ebt eγ eβ eWr t n f)
    · exact fun t n g => (load_rows arg13.view (stores A g13 g14 g45 θ0 θ1) _ eT 1 0 _ t n g (by omega)).trans (eR 1 _ n g)
    · exact fun t n g => (load_rows arg13.view (stores A g13 g14 g45 θ0 θ1) _ eT 1 1 _ t n g (by omega)).trans (eR 1 _ n g)
    · exact fun t n g => (load_rows arg13.view (stores A g13 g14 g45 θ0 θ1) _ eT 1 2 _ t n g (by omega)).trans (eR 1 _ n g)
    · exact fun t n d => load_feats arg14.view _ _ (fun b t n d => feat D b n t d) f0 f1 1 _ t n d

end Cert.Encoder.Ker
-- ==== Proof.KerRun.lean ====
/-
  The kernel's run: what the host hands the body, the output array, and the host's last transpose.
-/
module

public import proofs.«01_k».proof.Proof.KerOut
public import Idealize.ShloMosaic.Lib.Pipeline.Value

@[expose] public section

set_option maxRecDepth 16384

noncomputable section

namespace Cert.Encoder.Ker

open Cert.KernelIdeal Cert.KernelIdeal.Gen
open Idealize.ShloMosaic Idealize.ShloMosaic.TcCoe Idealize.ShloMosaic.Tactic
open Idealize.SL Idealize.SL.Sem
open Idealize.ShloMosaic (Ideal)
open Idealize.ShloMosaic.Pipeline (Dat Cfg Window)

variable (m : (ℓ : Loc nD τ sig) → Buf (Elt Ideal) ℓ) (c : Dev nD) (t : Fin cfg0.N)

/-- Window 0 hands the body the adjacency, whole. -/
theorem block0 : (iblk m c 0 t : Vec Ideal S512x512 .f32) = V m c main_arg1 := by
  funext y
  exact congrArg (V m c main_arg1) (funext fun a => Fin.ext (Window.rect_emb_val_of_index_zero (cfg0.win 0) t a rfl y))

/-- Window 1 hands the body the first weights, whole. -/
theorem block1 : (iblk m c 1 t : Vec Ideal S64x64 .f32) = V m c main_arg2 := by
  funext y
  exact congrArg (V m c main_arg2) (funext fun a => Fin.ext (Window.rect_emb_val_of_index_zero (cfg0.win 1) t a rfl y))

/-- Window 2 hands the body the first bias row, whole. -/
theorem block2 : (iblk m c 2 t : Vec Ideal S1x64 .f32) = V m c main_v2 := by
  funext y
  exact congrArg (V m c main_v2) (funext fun a => Fin.ext (Window.rect_emb_val_of_index_zero (cfg0.win 2) t a rfl y))

/-- Window 3 hands the body the weights of a node's own features, whole. -/
theorem block3 : (iblk m c 3 t : Vec Ideal S64x64 .f32) = V m c main_arg4 := by
  funext y
  exact congrArg (V m c main_arg4) (funext fun a => Fin.ext (Window.rect_emb_val_of_index_zero (cfg0.win 3) t a rfl y))

/-- Window 4 hands the body the weights of the neighbours' features, whole. -/
theorem block4 : (iblk m c 4 t : Vec Ideal S64x64 .f32) = V m c main_arg5 := by
  funext y
  exact congrArg (V m c main_arg5) (funext fun a => Fin.ext (Window.rect_emb_val_of_index_zero (cfg0.win 4) t a rfl y))

/-- Window 5 hands the body the temporal weights, whole. -/
theorem block5 : (iblk m c 5 t : Vec Ideal S3x64x64 .f32) = V m c main_v1 := by
  funext y
  exact congrArg (V m c main_v1) (funext fun a => Fin.ext (Window.rect_emb_val_of_index_zero (cfg0.win 5) t a rfl y))

/-- Window 6 hands the body the temporal bias row, whole. -/
theorem block6 : (iblk m c 6 t : Vec Ideal S1x64 .f32) = V m c main_v3 := by
  funext y
  exact congrArg (V m c main_v3) (funext fun a => Fin.ext (Window.rect_emb_val_of_index_zero (cfg0.win 6) t a rfl y))

/-- Window 7 hands the body the residual weights, whole. -/
theorem block7 : (iblk m c 7 t : Vec Ideal S64x64 .f32) = V m c main_arg8 := by
  funext y
  exact congrArg (V m c main_arg8) (funext fun a => Fin.ext (Window.rect_emb_val_of_index_zero (cfg0.win 7) t a rfl y))

/-- Window 8 hands the body the scale row, whole. -/
theorem block8 : (iblk m c 8 t : Vec Ideal S1x64 .f32) = V m c main_v4 := by
  funext y
  exact congrArg (V m c main_v4) (funext fun a => Fin.ext (Window.rect_emb_val_of_index_zero (cfg0.win 8) t a rfl y))

/-- Window 9 hands the body the shift row, whole. -/
theorem block9 : (iblk m c 9 t : Vec Ideal S1x64 .f32) = V m c main_v5 := by
  funext y
  exact congrArg (V m c main_v5) (funext fun a => Fin.ext (Window.rect_emb_val_of_index_zero (cfg0.win 9) t a rfl y))

/-- The host joins the time and feature axes of the input. -/
theorem host_input : V m c main_v0 = shapeCast S2x512x768 (m ((c.tc : Thread nD τ).loc main_arg0)) shapeCasts_S2x512x12x64_S2x512x768 := by
  unfold V V0
  simp only [hostOps0, List.flatten_cons, List.flatten_nil, List.append_nil, List.cons_append, List.nil_append]
  after_results
  rfl

/-- The host reverses the axes of the temporal weights. -/
theorem host_taps : V m c main_v1 = transpose S3x64x64 [2, 1, 0] (m ((c.tc : Thread nD τ).loc main_arg6)) transposes_S64x64x3_S3x64x64_2_1_0 := by
  unfold V V0
  simp only [hostOps0, List.flatten_cons, List.flatten_nil, List.append_nil, List.cons_append, List.nil_append]
  after_results

/-- The host makes a row of the first bias. -/
theorem host_bias : V m c main_v2 = shapeCast S1x64 (m ((c.tc : Thread nD τ).loc main_arg3)) shapeCasts_S64_S1x64 := by
  unfold V V0
  simp only [hostOps0, List.flatten_cons, List.flatten_nil, List.append_nil, List.cons_append, List.nil_append]
  after_results
  rfl

/-- The host makes a row of the temporal bias. -/
theorem host_bias_t : V m c main_v3 = shapeCast S1x64 (m ((c.tc : Thread nD τ).loc main_arg7)) shapeCasts_S64_S1x64 := by
  unfold V V0
  simp only [hostOps0, List.flatten_cons, List.flatten_nil, List.append_nil, List.cons_append, List.nil_append]
  after_results
  rfl

/-- The host makes a row of the scale. -/
theorem host_scale : V m c main_v4 = shapeCast S1x64 (m ((c.tc : Thread nD τ).loc main_arg9)) shapeCasts_S64_S1x64 := by
  unfold V V0
  simp only [hostOps0, List.flatten_cons, List.flatten_nil, List.append_nil, List.cons_append, List.nil_append]
  after_results
  rfl

/-- The host makes a row of the shift. -/
theorem host_shift : V m c main_v5 = shapeCast S1x64 (m ((c.tc : Thread nD τ).loc main_arg10)) shapeCasts_S64_S1x64 := by
  unfold V V0
  simp only [hostOps0, List.flatten_cons, List.flatten_nil, List.append_nil, List.cons_append, List.nil_append]
  after_results
  rfl

/-- The one block the body leaves is read back whole from an array holding it. -/
theorem cut_whole (G : Vec Ideal S2x12x512x64 .f32) :
    (cfg0.win 10).cut (grid0.coords t0_0) G = ((cfg0.win 10).blk t0_0).view.read (Elt Ideal) G := by
  funext y
  exact congrArg G (funext fun a => Fin.ext (Window.rect_emb_val_of_index_zero (cfg0.win 10) t0_0 a rfl y).symm)

/-- The one block is the whole array: every index is written by it. -/
theorem covered (i : S2x12x512x64.Idx) : i ∈ ((cfg0.win 10).blk t0_0).view.set := by
  have h : ((cfg0.win 10).blk t0_0).view.emb i = i :=
    funext fun a => Fin.ext (Window.rect_emb_val_of_index_zero (cfg0.win 10) t0_0 a rfl i)
  exact (congrArg (· ∈ ((cfg0.win 10).blk t0_0).view.set) h).mp (View.emb_mem_set _ _)

/-- The output array at the end is what the body leaves at the one grid point. -/
theorem array_eq : ((dats m 0 c).arrAt 10 cfg0.N : Vec Ideal S2x12x512x64 .f32) = outsAt0 m c t0_0 := by
  refine Dat.arrAt_eq_of_cover (dats m 0 c) 10 (outsAt0 m c t0_0) (fun t _ => ?_) (fun i => ⟨t0_0, by decide, covered i⟩)
  obtain rfl := fin_N0 t
  show (cfg0.win 10).cut (grid0.coords t0_0) ((dats m 0 c).after 10 t0_0) = _
  rw [after0_10]
  generalize outsAt0 m c t0_0 = G
  exact cut_whole G

/-- The result buffer after the host's last transpose. -/
theorem tail_eq : Pipeline.afterTail₀ cfgs (dats m) 0 (V0 m) [hostOps1] c main_v7
    = transpose S2x512x64x12 [0, 2, 3, 1] (outsAt0 m c t0_0) transposes_S2x12x512x64_S2x512x64x12_0_2_3_1 := by
  rw [← array_eq m c]
  unfold Pipeline.afterTail₀
  simp only [hostOps1, List.flatten_cons, List.flatten_nil, List.append_nil, List.cons_append, List.nil_append]
  after_results
  exact congrArg (fun x => transpose S2x512x64x12 [0, 2, 3, 1] x transposes_S2x12x512x64_S2x512x64x12_0_2_3_1)
    (Pipeline.withArrays_arr spec0 winFacts0.arr_inj c (V0 m c) (fun w => (dats m 0 c).arrAt w cfg0.N) 10)

/-- A vector of sixty-four numbers made a row, at an entry. -/
theorem row_at (x : Vec Ideal S64 .f32) (f : Fin 64) : (shapeCast S1x64 x shapeCasts_S64_S1x64 (ix2 0 f) : EReal) = x (ix1 f) := by
  pointwise []

/-- The temporal weights with reversed axes, at an entry. -/
theorem taps_at (x : Vec Ideal S64x64x3 .f32) (f g : Fin 64) (k : Fin 3) :
    (transpose S3x64x64 [2, 1, 0] x transposes_S64x64x3_S3x64x64_2_1_0 (ix3 k g f) : EReal) = x (ix3 f g k) := by
  pointwise []

/-- The input with time and feature joined, at an entry. -/
theorem input_at (x : Vec Ideal S2x512x12x64 .f32) (b : Fin 2) (n : Fin 512) (t : Fin 12) (e : Fin 64) :
    (shapeCast S2x512x768 x shapeCasts_S2x512x12x64_S2x512x768 (ix3 b n ⟨64 * t + e, by omega⟩) : EReal) = x (ix4 b n t e) := by
  pointwise []

/-- The last transpose, at an entry. -/
theorem last_at (x : Vec Ideal S2x12x512x64 .f32) (b : Fin 2) (n : Fin 512) (f : Fin 64) (t : Fin 12) :
    (transpose S2x512x64x12 [0, 2, 3, 1] x transposes_S2x12x512x64_S2x512x64x12_0_2_3_1 (ix4 b n f t) : EReal) = x (ix4 b t n f) := by
  pointwise []

/-- The problem's data as the kernel's arguments at the launch. -/
def dataOf : Data where
  X b n t e := m ((c.tc : Thread nD τ).loc main_arg0) (ix4 b n t e)
  A := graph (m ((c.tc : Thread nD τ).loc main_arg1))
  W1 e d := m ((c.tc : Thread nD τ).loc main_arg2) (ix2 e d)
  b1 d := m ((c.tc : Thread nD τ).loc main_arg3) (ix1 d)
  θ0 d f := m ((c.tc : Thread nD τ).loc main_arg4) (ix2 d f)
  θ1 d f := m ((c.tc : Thread nD τ).loc main_arg5) (ix2 d f)
  Wt f g k := m ((c.tc : Thread nD τ).loc main_arg6) (ix3 f g k)
  bt f := m ((c.tc : Thread nD τ).loc main_arg7) (ix1 f)
  Wr d f := m ((c.tc : Thread nD τ).loc main_arg8) (ix2 d f)
  γ f := m ((c.tc : Thread nD τ).loc main_arg9) (ix1 f)
  β f := m ((c.tc : Thread nD τ).loc main_arg10) (ix1 f)

/-- What the body is handed is the problem's data. -/
theorem blocks_eq : blocks (iblk m c 0 t) (iblk m c 1 t) (iblk m c 2 t) (iblk m c 3 t) (iblk m c 4 t) (iblk m c 5 t) (iblk m c 6 t)
    (iblk m c 7 t) (iblk m c 8 t) (iblk m c 9 t) (View.read (Elt Ideal) (Memref.whole main_v0).view (V m c main_v0)) = dataOf m c := by
  rw [block0, block1, block2, block3, block4, block5, block6, block7, block8, block9, host_taps, host_bias, host_bias_t, host_scale,
    host_shift, V_main_arg1, V_main_arg2, V_main_arg4, V_main_arg5, V_main_arg8,
    show View.read (Elt Ideal) (Memref.whole main_v0).view (V m c main_v0) = V m c main_v0 from rfl, host_input]
  unfold blocks dataOf
  congr 1
  · funext b n t e
    exact input_at _ b n t e
  · funext d
    exact row_at _ d
  · funext f g k
    exact taps_at _ f g k
  · funext f
    exact row_at _ f
  · funext f
    exact row_at _ f
  · funext f
    exact row_at _ f

/-- The kernel's result array. -/
def kerArr : Vec Ideal S2x512x64x12 .f32 :=
  transpose S2x512x64x12 [0, 2, 3, 1] (outsAt0 m c t0_0) transposes_S2x12x512x64_S2x512x64x12_0_2_3_1

/-- The kernel's result, at an entry, is the kernel's form of the encoder of its arguments. -/
theorem result_at (b : Fin 2) (n : Fin 512) (f : Fin 64) (t : Fin 12) : (kerArr m c (ix4 b n f t) : EReal) = outK (dataOf m c) b n t f := by
  unfold kerArr
  rw [last_at, ← blocks_eq m c t0_0]
  unfold outsAt0
  exact out_at c _ _ _ _ _ _ _ _ _ _ _ _ _ _ _ _ _ _ _ _ _ _ _ _ _ _ _ _ _ _ _ _ _ _ _ _ _ _ _ (ix4 b t n f)

/-- The kernel's run: the result array ends holding `kerArr`, and the arguments stay as they were. -/
theorem run (ρ : Dev nD → PrngReg) : θ_run defs (onTc (τ := τ) (main (F := Ideal))) ⟨m, fun _ => 0, ρ⟩ (fun r => ∀ c : Dev nD,
      r.2.mem ((c.tc : Thread nD τ).loc main_v7) = kerArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun _ h c => ⟨((h.1 c).2 main_v7 (Pipeline.mem_restRefs_of main_v7 (by decide) (by decide))).trans (tail_eq m c), h.2 c⟩)
    (θ_run_and (run_main m ρ) (unchanged m ρ))

end Cert.Encoder.Ker
-- ==== Proof.RefEdges.lean ====
/-
  The reference's edge list, word by word: the running count of the adjacency's non-zero entries (`count_at`), its histogram's
  running sum (`flat_at`), and the two ends of the edge in a slot, which are the edge list's (`src_at`, `dst_at`).
-/
module

public import proofs.«01_k».proof.Proof.Edges
public import proofs.«01_k».proof.Proof.Gen.ReferenceIdeal.Run
public import Idealize.ShloMosaic.Lib.Routing.Words
public import Idealize.ShloMosaic.Lib.Routing.OpsSet
public import Idealize.ShloMosaic.Lib.IdealHost

@[expose] public section

noncomputable section

namespace Cert.Encoder.Ref

open Cert.ReferenceIdeal Cert.ReferenceIdeal.Gen Cert.ReferenceIdeal.Value
open Idealize.ShloMosaic Idealize.ShloMosaic.ValueIdx Idealize.ShloMosaic.Routing Idealize.ShloMosaic.WordCmp
open scoped BigOperators

variable (V : Valuation τ sig (Elt Ideal))

/-- The adjacency among the reference's arguments. -/
def adj (i j : Fin 512) : EReal := V (Proc.devRef .tc main_arg1) (ix2 i j)

/-- The flat list of edges the reference searches. -/
abbrev Hit : ℕ → Prop := hit (adj V)

/-- How many entries up to (and with) position `k` are not zero. -/
abbrev cnt (k : ℕ) : ℕ := Nat.count (Hit V) (k + 1)

/-- Entry `k` of the flattened mask tells whether position `k` holds an edge. -/
theorem mask_at (k : Fin 262144) : extui 32 (res_main_v2 V) natLt_1_32 (ix1 k) = BitVec.ofNat 32 (if Hit V k.val then 1 else 0) := by
  have hk := k.isLt
  have e : res_main_v2 V (ix1 k) = BitVec.ofBool (decide (adj V (rowOf k.val) (colOf k.val) ≠ 0)) := by
    unfold res_main_v2
    refine (cast21 _ _ (rowOf k.val) (colOf k.val) k ?_).trans ?_
    · show k.val = k.val / 512 % 512 * 512 + k.val % 512
      omega
    · show BitVec.ofBool (decide (adj V (rowOf k.val) (colOf k.val) ≠ Ideal.ofBits .f32 0x00000000#32)) = _
      rw [Ideal.ofBits_zero_f32]
  show (res_main_v2 V (ix1 k)).setWidth 32 = _
  rw [e, ite_hit]
  by_cases h : adj V (rowOf k.val) (colOf k.val) ≠ 0
  · rw [if_pos h, decide_eq_true h]; rfl
  · rw [if_neg h, decide_eq_false h]; rfl

/-- The running count. -/
theorem count_at (k : Fin 262144) : res_main_v3 V (ix1 k) = BitVec.ofNat 32 (cnt V k.val) := by
  unfold res_main_v3
  rw [cumsum1 (by norm_num) _ (fun k => if Hit V k then 1 else 0) (mask_at V) _ rfl, sum_map_ite]

/-- The count of edges before a position fits a word. -/
theorem cnt_lt (k : Fin 262144) : cnt V k.val < 2 ^ 31 :=
  lt_of_le_of_lt (Nat.count_le _) (by have := k.isLt; omega)

/-- A vector stood up as a column. -/
theorem column_at {α : Type} (x : S262144.Idx → α) (k : Fin 262144) :
    broadcastInDim S262144x1 ![0] bcast_S262144_S262144x1_0 x (ix2 k (0 : Fin 1)) = x (ix1 k) := by
  unfold broadcastInDim
  refine congrArg x (funext fun a => ?_)
  match a with
  | ⟨0, _⟩ => exact dif_neg (by show ¬ (262144 : ℕ) = 1; norm_num)

/-- The wrap of a negative index leaves an index word of a small number as it is. -/
theorem wrap_at (x c : IVec S262144 32) (k : Fin 262144) (n : ℕ) (hx : x (ix1 k) = BitVec.ofNat 32 n) (hn : n < 2 ^ 31) :
    broadcastInDim S262144x1 ![0] bcast_S262144_S262144x1_0 (select (cmpi .slt x (broadcastInDim S262144 ![] bcast_S_S262144 (constantI S_ 32 0#32))) (addi x c) x) (ix2 k (0 : Fin 1))
      = BitVec.ofNat 32 n := by
  rw [column_at]
  show Scalar.select (IntOp.cmpi .slt (x (ix1 k)) 0#32) _ (x (ix1 k)) = _
  rw [wrap_of_lt _ _ (by rw [hx, toNat_ofNat_of_lt (lt_trans hn (by norm_num))]; exact hn), hx]

/-- The histogram's running sum: how many positions count at most `e` edges. -/
theorem flat_at (e : Fin 262144) : res_main_v13 V (ix1 e) = BitVec.ofNat 32 (Nat.count (fun i => cnt V i ≤ e.val) 262144) := by
  unfold res_main_v13
  refine (cumsum1 (by norm_num) _ (fun y => Nat.count (fun i => cnt V i = y) 262144) (fun y => ?_) _ rfl _ _ e).trans (congrArg _ (sum_count_eq _ _ _))
  exact scatter_hist _ rfl rfl rfl _ (fun _ => rfl) _ _ (fun _ => rfl) (cnt V) (fun k => wrap_at _ _ k _ (count_at V k) (cnt_lt V k)) (cnt_lt V) y

/-- Whether slot `e` lies past the edges. -/
theorem past_at (e : Fin 262144) : res_main_v23 V (ix1 e) = BitVec.ofBool (decide (Nat.count (Hit V) 262144 ≤ e.val)) := by
  have hs : Host.reduce IntOp.addi (extui 32 (res_main_v2 V) natLt_1_32) (constantI S_ 32 0#32) reducesTo_S262144_S_d0 h_S_ ix0
      = BitVec.ofNat 32 (Nat.count (Hit V) 262144) := by
    refine (reduce_sum _ (fun k => if Hit V k then 1 else 0) (mask_at V) _ _).trans (congrArg _ (sum_map_ite _ _))
  have he := e.isLt
  have hb : ∀ (x : IVec S_ 32), broadcastInDim S262144 ![0] bcast_S1_S262144_0 (broadcastInDim S1 ![] bcast_S_S1 x) (ix1 e) = x ix0 := fun x =>
    congrArg x (funext fun a => a.elim0)
  unfold res_main_v23
  rw [cmpi_at, hb, hs, iotaInDim_at]
  exact cmpi_sge_ofNat (w := 32) (by show e.val < 2 ^ 31; omega) (lt_of_le_of_lt (Nat.count_le _) (by norm_num))

/-- An end of an edge: past the edges the zero, and before them the remainder by 512 of the position's quotient by `q`. -/
theorem end_at (q : ℕ) (hq : 0 < q) (hq31 : q < 2 ^ 31) (e : Fin 262144) :
    select (res_main_v23 V) (broadcastInDim S262144 ![0] bcast_S1_S262144_0 (broadcastInDim S1 ![] bcast_S_S1 (constantI S_ 32 0#32)))
      (pyRem bcast_S_S262144 (pyDiv bcast_S_S262144 (res_main_v13 V) (constantI S_ 32 (BitVec.ofNat 32 q))) (constantI S_ 32 512#32)) (ix1 e)
      = BitVec.ofNat 32 (entry (Hit V) 262144 e.val / q % 512) := by
  rw [select_at, past_at, select_decide]
  unfold entry
  split
  · simp only [Nat.zero_div, Nat.zero_mod]; rfl
  · have hlt : Nat.count (fun i => cnt V i ≤ e.val) 262144 < 2 ^ 31 := lt_of_le_of_lt (Nat.count_le _) (by norm_num)
    exact pyRem_ap _ _ _ _ (pyDiv_ap _ _ _ _ (flat_at V e) rfl hlt hq hq31) rfl (lt_of_le_of_lt (Nat.div_le_self _ _) hlt) (by norm_num) (by norm_num)

/-- The row end of the edge in slot `e`. -/
theorem src_at (e : Fin 262144) : res_main_v25 V (ix1 e) = BitVec.ofNat 32 (srcOf (adj V) e.val).val :=
  end_at V 512 (by norm_num) (by norm_num) e

/-- The column end. -/
theorem dst_at (e : Fin 262144) : res_main_v27 V (ix1 e) = BitVec.ofNat 32 (dstOf (adj V) e.val).val :=
  (end_at V 1 (by norm_num) (by norm_num) e).trans (by rw [Nat.div_one]; rfl)

end Cert.Encoder.Ref

end
-- ==== Proof.RefGraph.lean ====
/-
  The reference's gathers and scatters at an index: a gather reads its table at the edge's end, a scatter-add sums over the slots
  whose edge ends at the node.
-/
module

public import proofs.«01_k».proof.Proof.Weights
public import proofs.«01_k».proof.Proof.RefEdges
public import Idealize.ShloMosaic.Lib.Routing.OpsPair

@[expose] public section

noncomputable section

namespace Cert.Encoder.Ref

open Cert.ReferenceIdeal Cert.ReferenceIdeal.Gen Cert.ReferenceIdeal.Value
open Idealize.ShloMosaic Idealize.ShloMosaic.ValueIdx Idealize.ShloMosaic.Routing
open scoped BigOperators Classical

/-- A small number's word, read signed. -/
theorem toInt_small (n : ℕ) (h : n < 2 ^ 31) : (BitVec.ofNat 32 n).toInt = (n : Int) :=
  StableHlo.Predicate.toInt_ofNat_small _ h

/-! ### The scatter into a vector -/

/-- Update `e` lands at `j` exactly when its index word is `j`. -/
theorem lands1 (idx : IVec S262144x1 32) (e : Fin 262144) (j : Fin 512) :
    (scatter_S512_S262144x1_S262144_n_0_0_1).resultIdx? (ix1 e) idx = some (ix1 j) ↔ (idx (ix2 e (0 : Fin 1))).toInt = (j.val : Int) := by
  rw [resultIdx?_eq_some]
  have hs : (scatter_S512_S262144x1_S262144_n_0_0_1).start (ix1 e) idx 0 = (idx (ix2 e (0 : Fin 1))).toInt := by
    unfold ScatterDims.start
    rw [dif_pos (by decide)]
    refine congrArg (fun i => (idx i).toInt) (funext fun a => ?_)
    match a with
    | ⟨0, _⟩ => rfl
    | ⟨1, _⟩ => rfl
  have hw : (scatter_S512_S262144x1_S262144_n_0_0_1).window (ix1 e) 0 = 0 := rfl
  constructor
  · intro h
    have := h 0
    rw [hs, hw] at this
    simpa using this
  · intro h a
    match a with
    | ⟨0, _⟩ =>
      show (scatter_S512_S262144x1_S262144_n_0_0_1).start (ix1 e) idx 0 + ((scatter_S512_S262144x1_S262144_n_0_0_1).window (ix1 e) 0 : Int) = (j.val : Int)
      rw [hs, hw, h]; simp

/-- A scatter-add into a vector, at `j`: the sum of the updates whose index word is `j`. -/
theorem scatter1_at (x : FVec Ideal S512 .f32) (idx : IVec S262144x1 32) (upd : FVec Ideal S262144 .f32) (g : Fin 262144 → Fin 512)
    (hg : ∀ e, idx (ix2 e (0 : Fin 1)) = BitVec.ofNat 32 (g e).val) (j : Fin 512) :
    Host.scatterAdd scatter_S512_S262144x1_S262144_n_0_0_1 x idx upd (ix1 j)
      = (x (ix1 j) + ∑ e : Fin 262144, if g e = j then upd (ix1 e) else 0 : EReal) := by
  have hl : ∀ e, (scatter_S512_S262144x1_S262144_n_0_0_1).resultIdx? (ix1 e) idx = some (ix1 j) ↔ g e = j := fun e => by
    rw [lands1, hg, toInt_small _ (lt_trans (g e).isLt (by norm_num)), Fin.ext_iff]
    exact Int.ofNat_inj
  show (x (ix1 j) + ∑ k ∈ Finset.univ.filter (fun k => (scatter_S512_S262144x1_S262144_n_0_0_1).resultIdx? k idx = some (ix1 j)), upd k : EReal) = _
  refine congrArg (x (ix1 j) + ·) ?_
  rw [← Finset.sum_filter]
  refine Finset.sum_bij (fun k _ => k 0) (fun k hk => ?_) (fun k _ k' _ h => ?_) (fun e he => ?_) fun k hk => ?_
  · have h := (Finset.mem_filter.1 hk).2
    rw [eq_ix1 k] at h
    exact Finset.mem_filter.2 ⟨Finset.mem_univ _, (hl _).1 h⟩
  · rw [eq_ix1 k, eq_ix1 k', h]
  · exact ⟨ix1 e, Finset.mem_filter.2 ⟨Finset.mem_univ _, (hl e).2 (Finset.mem_filter.1 he).2⟩, rfl⟩
  · exact congrArg upd (eq_ix1 k)

/-! ### The scatter of slabs -/

/-- Update slab `e` lands at node `n` exactly when its index word is `n`, every coordinate of the slab in its place. -/
theorem lands4 (idx : IVec S262144x1 32) (e : Fin 262144) (b b' : Fin 2) (t t' : Fin 12) (d d' : Fin 64) (n : Fin 512) :
    (scatter_S512x2x12x64_S262144x1_S262144x2x12x64_123_0_0_1).resultIdx? (ix4 e b' t' d') idx = some (ix4 n b t d)
      ↔ (idx (ix2 e (0 : Fin 1))).toInt = (n.val : Int) ∧ b' = b ∧ t' = t ∧ d' = d := by
  rw [resultIdx?_eq_some]
  have hs : (scatter_S512x2x12x64_S262144x1_S262144x2x12x64_123_0_0_1).start (ix4 e b' t' d') idx 0 = (idx (ix2 e (0 : Fin 1))).toInt := by
    unfold ScatterDims.start
    rw [dif_pos (by decide)]
    refine congrArg (fun i => (idx i).toInt) (funext fun a => ?_)
    match a with
    | ⟨0, _⟩ => rfl
    | ⟨1, _⟩ => rfl
  have hw : (scatter_S512x2x12x64_S262144x1_S262144x2x12x64_123_0_0_1).window (ix4 e b' t' d') 0 = 0 := rfl
  have e0 : ((scatter_S512x2x12x64_S262144x1_S262144x2x12x64_123_0_0_1).start (ix4 e b' t' d') idx 0
      + ((scatter_S512x2x12x64_S262144x1_S262144x2x12x64_123_0_0_1).window (ix4 e b' t' d') 0 : Int) = ((ix4 n b t d 0).val : Int)) ↔ (idx (ix2 e (0 : Fin 1))).toInt = (n.val : Int) := by
    rw [hs, hw]; simp
  have e1 : ((scatter_S512x2x12x64_S262144x1_S262144x2x12x64_123_0_0_1).start (ix4 e b' t' d') idx 1
      + ((scatter_S512x2x12x64_S262144x1_S262144x2x12x64_123_0_0_1).window (ix4 e b' t' d') 1 : Int) = ((ix4 n b t d 1).val : Int)) ↔ b' = b := by
    show (0 : Int) + (b'.val : Int) = (b.val : Int) ↔ _
    rw [Fin.ext_iff]; omega
  have e2 : ((scatter_S512x2x12x64_S262144x1_S262144x2x12x64_123_0_0_1).start (ix4 e b' t' d') idx 2
      + ((scatter_S512x2x12x64_S262144x1_S262144x2x12x64_123_0_0_1).window (ix4 e b' t' d') 2 : Int) = ((ix4 n b t d 2).val : Int)) ↔ t' = t := by
    show (0 : Int) + (t'.val : Int) = (t.val : Int) ↔ _
    rw [Fin.ext_iff]; omega
  have e3 : ((scatter_S512x2x12x64_S262144x1_S262144x2x12x64_123_0_0_1).start (ix4 e b' t' d') idx 3
      + ((scatter_S512x2x12x64_S262144x1_S262144x2x12x64_123_0_0_1).window (ix4 e b' t' d') 3 : Int) = ((ix4 n b t d 3).val : Int)) ↔ d' = d := by
    show (0 : Int) + (d'.val : Int) = (d.val : Int) ↔ _
    rw [Fin.ext_iff]; omega
  constructor
  · exact fun h => ⟨e0.1 (h 0), e1.1 (h 1), e2.1 (h 2), e3.1 (h 3)⟩
  · rintro ⟨h0, h1, h2, h3⟩ a
    match a with
    | ⟨0, _⟩ => exact e0.2 h0
    | ⟨1, _⟩ => exact e1.2 h1
    | ⟨2, _⟩ => exact e2.2 h2
    | ⟨3, _⟩ => exact e3.2 h3

/-- A scatter-add of slabs, at `(n, b, t, d)`: the sum over the slabs whose index word is `n`. -/
theorem scatter4_at (x : FVec Ideal S512x2x12x64 .f32) (idx : IVec S262144x1 32) (upd : FVec Ideal S262144x2x12x64 .f32) (g : Fin 262144 → Fin 512)
    (hg : ∀ e, idx (ix2 e (0 : Fin 1)) = BitVec.ofNat 32 (g e).val) (n : Fin 512) (b : Fin 2) (t : Fin 12) (d : Fin 64) :
    Host.scatterAdd scatter_S512x2x12x64_S262144x1_S262144x2x12x64_123_0_0_1 x idx upd (ix4 n b t d)
      = (x (ix4 n b t d) + ∑ e : Fin 262144, if g e = n then upd (ix4 e b t d) else 0 : EReal) := by
  have hl : ∀ e b' t' d', (scatter_S512x2x12x64_S262144x1_S262144x2x12x64_123_0_0_1).resultIdx? (ix4 e b' t' d') idx = some (ix4 n b t d)
      ↔ g e = n ∧ b' = b ∧ t' = t ∧ d' = d := fun e b' t' d' => by
    rw [lands4, hg, toInt_small _ (lt_trans (g e).isLt (by norm_num)), Fin.ext_iff (a := g e)]
    exact and_congr_left fun _ => Int.ofNat_inj
  show (x (ix4 n b t d) + ∑ k ∈ Finset.univ.filter (fun k => (scatter_S512x2x12x64_S262144x1_S262144x2x12x64_123_0_0_1).resultIdx? k idx = some (ix4 n b t d)), upd k : EReal) = _
  refine congrArg (x (ix4 n b t d) + ·) ?_
  rw [← Finset.sum_filter]
  have hk : ∀ k : S262144x2x12x64.Idx, k ∈ Finset.univ.filter (fun k => (scatter_S512x2x12x64_S262144x1_S262144x2x12x64_123_0_0_1).resultIdx? k idx = some (ix4 n b t d))
      → g (k 0) = n ∧ k = ix4 (k 0) b t d := fun k hk => by
    have h := (Finset.mem_filter.1 hk).2
    rw [eq_ix4 k] at h
    obtain ⟨h0, h1, h2, h3⟩ := (hl _ _ _ _).1 h
    exact ⟨h0, (eq_ix4 k).trans (by rw [h1, h2, h3]; rfl)⟩
  refine Finset.sum_bij (fun k _ => k 0) (fun k h => ?_) (fun k h k' h' q => ?_) (fun e he => ?_) fun k h => ?_
  · exact Finset.mem_filter.2 ⟨Finset.mem_univ _, (hk k h).1⟩
  · rw [(hk k h).2, (hk k' h').2, q]
  · exact ⟨ix4 e b t d, Finset.mem_filter.2 ⟨Finset.mem_univ _, (hl e b t d).2 ⟨(Finset.mem_filter.1 he).2, rfl, rfl, rfl⟩⟩, rfl⟩
  · exact congrArg upd (hk k h).2

/-! ### The gather of slabs -/

/-- A gather of slabs reads the table's slab at the index word. -/
theorem gather4_at (x : FVec Ideal S512x2x12x64 .f32) (idx : IVec S262144x1 32) (g : Fin 262144 → Fin 512)
    (hg : ∀ e, idx (ix2 e (0 : Fin 1)) = BitVec.ofNat 32 (g e).val) (e : Fin 262144) (b : Fin 2) (t : Fin 12) (d : Fin 64) :
    Host.gather gather_S512x2x12x64_S262144x1_S262144x2x12x64_123_0_n_n_0_1_121264 x idx (ix4 e b t d) = x (ix4 (g e) b t d) := by
  have hs : (gather_S512x2x12x64_S262144x1_S262144x2x12x64_123_0_n_n_0_1_121264).start (ix4 e b t d) idx 0 = (g e).val := by
    unfold GatherDims.start
    rw [dif_pos (by decide)]
    refine (congrArg (fun i => min (idx i).toInt.toNat (512 - 1)) (funext fun a => ?_)).trans (b := min (idx (ix2 e (0 : Fin 1))).toInt.toNat (512 - 1)) ?_
    · match a with
      | ⟨0, _⟩ => rfl
      | ⟨1, _⟩ => rfl
    · have := (g e).isLt
      rw [hg, toInt_small _ (lt_trans (g e).isLt (by norm_num))]
      omega
  unfold Host.gather
  refine congrArg x (funext fun a => Fin.ext ?_)
  match a with
  | ⟨0, _⟩ =>
    show (gather_S512x2x12x64_S262144x1_S262144x2x12x64_123_0_n_n_0_1_121264).start (ix4 e b t d) idx 0 + 0 + 0 = (g e).val
    rw [hs]; rfl
  | ⟨1, _⟩ =>
    show 0 + 0 + b.val = b.val
    omega
  | ⟨2, _⟩ =>
    show 0 + 0 + t.val = t.val
    omega
  | ⟨3, _⟩ =>
    show 0 + 0 + d.val = d.val
    omega

/-! ### The degrees and the arriving messages -/

variable (V : Valuation τ sig (Elt Ideal))

/-- The target of the edge in slot `e`. -/
def dstAt (e : Fin 262144) : Fin 512 := dstOf (adj V) e.val
/-- The source of the edge in slot `e`. -/
def srcAt (e : Fin 262144) : Fin 512 := srcOf (adj V) e.val

/-- The target of the edge in slot `e`, as a column of words. -/
theorem dst_column (e : Fin 262144) :
    broadcastInDim S262144x1 ![0] bcast_S262144_S262144x1_0 (res_main_v27 V) (ix2 e (0 : Fin 1)) = BitVec.ofNat 32 (dstAt V e).val := by
  rw [column_at, dst_at, dstAt]

/-- The target of the edge in slot `e`, through the wrap of a negative index. -/
theorem dst_wrapped (c : IVec S262144 32) (e : Fin 262144) :
    broadcastInDim S262144x1 ![0] bcast_S262144_S262144x1_0 (select (cmpi .slt (res_main_v27 V) (broadcastInDim S262144 ![] bcast_S_S262144 (constantI S_ 32 0#32))) (addi (res_main_v27 V) c) (res_main_v27 V)) (ix2 e (0 : Fin 1))
      = BitVec.ofNat 32 (dstAt V e).val :=
  wrap_at _ _ e _ ((dst_at V e).trans (by rw [dstAt])) (lt_trans (dstAt V e).isLt (by norm_num))

/-- The source of the edge in slot `e`, through the wrap of a negative index. -/
theorem src_wrapped (c : IVec S262144 32) (e : Fin 262144) :
    broadcastInDim S262144x1 ![0] bcast_S262144_S262144x1_0 (select (cmpi .slt (res_main_v25 V) (broadcastInDim S262144 ![] bcast_S_S262144 (constantI S_ 32 0#32))) (addi (res_main_v25 V) c) (res_main_v25 V)) (ix2 e (0 : Fin 1))
      = BitVec.ofNat 32 (srcAt V e).val :=
  wrap_at _ _ e _ ((src_at V e).trans (by rw [srcAt])) (lt_trans (srcAt V e).isLt (by norm_num))

end Cert.Encoder.Ref

end
-- ==== Proof.RefArrive.lean ====
/-
  The reference's degrees (`deg_at`), the weights of its edges (`norm_at`), and what arrives at a node (`agg_at`).
-/
module

public import proofs.«01_k».proof.Proof.RefGraph

@[expose] public section

noncomputable section

namespace Cert.Encoder.Ref

open Cert.ReferenceIdeal Cert.ReferenceIdeal.Gen Cert.ReferenceIdeal.Value
open Idealize.ShloMosaic Idealize.ShloMosaic.ValueIdx Idealize.ShloMosaic.Routing
open scoped BigOperators Classical

variable (V : Valuation τ sig (Elt Ideal))

/-- A maximum at an index. -/
theorem max_at {s : Shape} (x y : FVec Ideal s .f32) (i : s.Idx) : (maximumf x y i : EReal) = max (x i : EReal) (y i) := rfl
/-- A product at an index. -/
theorem mul_at {s : Shape} (x y : FVec Ideal s .f32) (i : s.Idx) : (mulf x y i : EReal) = (x i : EReal) * (y i : EReal) := rfl
/-- An inverse root at an index. -/
theorem rsqrt_at {s : Shape} (x : FVec Ideal s .f32) (i : s.Idx) : (Host.rsqrt x i : EReal) = Ideal.rsqrt (x i) := rfl

/-- The reference's degree of node `j`. -/
theorem deg_at (j : Fin 512) : (res_main_v33 V (ix1 j) : EReal) = ((deg (adj V) j : ℝ) : EReal) := by
  have hone : ∀ e : Fin 262144, broadcastInDim S262144 ![] bcast_S_S262144 (constant S_ .f32 0x3F800000#32 : FVec Ideal S_ .f32) (ix1 e) = (1 : EReal) :=
    fun e => (bc0 _ _ _).trans Ideal.ofBits_one_f32
  have hone' : broadcastInDim S512 ![] bcast_S_S512 (constant S_ .f32 0x3F800000#32 : FVec Ideal S_ .f32) (ix1 j) = (1 : EReal) :=
    (bc0 _ _ _).trans Ideal.ofBits_one_f32
  have hzero : broadcastInDim S512 ![] bcast_S_S512 (constant S_ .f32 0x00000000#32 : FVec Ideal S_ .f32) (ix1 j) = (0 : EReal) :=
    (bc0 _ _ _).trans Ideal.ofBits_zero_f32
  have h := scatter1_at (broadcastInDim S512 ![] bcast_S_S512 (constant S_ .f32 0x00000000#32)) _
    (broadcastInDim S262144 ![] bcast_S_S262144 (constant S_ .f32 0x3F800000#32)) (dstAt V) (dst_column V) j
  simp only [hone, hzero, dstAt] at h
  have hd := (congrArg₂ max h hone').trans (degree_eq (adj V) j)
  unfold res_main_v33
  exact (max_at _ _ _).trans hd

/-- The features, by the reference. -/
abbrev featArr : FVec Ideal S512x2x12x64 .f32 := res_main_v55 V

/-- What the reference weighs the edge in a slot by. -/
def normArr : FVec Ideal S262144 .f32 :=
  mulf (Host.rsqrt (Host.gather gather_S512_S262144x1_S262144_n_0_n_n_0_1_1 (res_main_v33 V) (broadcastInDim S262144x1 ![0] bcast_S262144_S262144x1_0 (select (cmpi .slt (res_main_v25 V) (broadcastInDim S262144 ![] bcast_S_S262144 (constantI S_ 32 0#32))) (addi (res_main_v25 V) (broadcastInDim S262144 ![] bcast_S_S262144 (constantI S_ 32 512#32))) (res_main_v25 V))))) (Host.rsqrt (Host.gather gather_S512_S262144x1_S262144_n_0_n_n_0_1_1 (res_main_v33 V) (broadcastInDim S262144x1 ![0] bcast_S262144_S262144x1_0 (select (cmpi .slt (res_main_v27 V) (broadcastInDim S262144 ![] bcast_S_S262144 (constantI S_ 32 0#32))) (addi (res_main_v27 V) (broadcastInDim S262144 ![] bcast_S_S262144 (constantI S_ 32 512#32))) (res_main_v27 V)))))

/-- The messages of the slots. -/
def msgArr : FVec Ideal S262144x2x12x64 .f32 :=
  mulf (Host.gather gather_S512x2x12x64_S262144x1_S262144x2x12x64_123_0_n_n_0_1_121264 (res_main_v55 V) (broadcastInDim S262144x1 ![0] bcast_S262144_S262144x1_0 (select (cmpi .slt (res_main_v25 V) (broadcastInDim S262144 ![] bcast_S_S262144 (constantI S_ 32 0#32))) (addi (res_main_v25 V) (broadcastInDim S262144 ![] bcast_S_S262144 (constantI S_ 32 512#32))) (res_main_v25 V)))) (broadcastInDim S262144x2x12x64 ![0, 1, 2, 3] bcast_S262144x1x1x1_S262144x2x12x64_0_1_2_3 (broadcastInDim S262144x1x1x1 ![0] bcast_S262144_S262144x1x1x1_0 (normArr V)))

/-- What arrives at the nodes. -/
def aggArr : FVec Ideal S512x2x12x64 .f32 :=
  Host.scatterAdd scatter_S512x2x12x64_S262144x1_S262144x2x12x64_123_0_0_1 (broadcastInDim S512x2x12x64 ![] bcast_S_S512x2x12x64 (constant S_ .f32 0x00000000#32)) (broadcastInDim S262144x1 ![0] bcast_S262144_S262144x1_0 (res_main_v27 V)) (msgArr V)

/-- An edge is weighed by the inverse roots of its ends' degrees. -/
theorem norm_at (e : Fin 262144) : (normArr V (ix1 e) : EReal) = (invRoot (adj V) (srcAt V e) : EReal) * (invRoot (adj V) (dstAt V e) : EReal) := by
  have hs := gather_take1 gather_S512_S262144x1_S262144_n_0_n_n_0_1_1 rfl rfl rfl rfl (res_main_v33 V) _ e (srcAt V e)
    (src_wrapped V (broadcastInDim S262144 ![] bcast_S_S262144 (constantI S_ 32 512#32)) e) (by norm_num)
  have hd := gather_take1 gather_S512_S262144x1_S262144_n_0_n_n_0_1_1 rfl rfl rfl rfl (res_main_v33 V) _ e (dstAt V e)
    (dst_wrapped V (broadcastInDim S262144 ![] bcast_S_S262144 (constantI S_ 32 512#32)) e) (by norm_num)
  unfold normArr
  refine (mul_at _ _ _).trans (congrArg₂ (fun x y : EReal => x * y) ?_ ?_)
  · exact (rsqrt_at _ _).trans ((congrArg Ideal.rsqrt (hs.trans (deg_at V _))).trans (rsqrt_deg _ _))
  · exact (rsqrt_at _ _).trans ((congrArg Ideal.rsqrt (hd.trans (deg_at V _))).trans (rsqrt_deg _ _))

/-- A slot's message: the features of its source by its weight. -/
theorem msg_at (e : Fin 262144) (b : Fin 2) (t : Fin 12) (d : Fin 64) :
    (msgArr V (ix4 e b t d) : EReal) = (featArr V (ix4 (srcAt V e) b t d) : EReal) * ((invRoot (adj V) (srcAt V e) : EReal) * (invRoot (adj V) (dstAt V e) : EReal)) := by
  have hg := gather4_at (featArr V) _ (srcAt V) (src_wrapped V (broadcastInDim S262144 ![] bcast_S_S262144 (constantI S_ 32 512#32))) e b t d
  have hb : ∀ x : FVec Ideal S262144 .f32, broadcastInDim S262144x2x12x64 ![0, 1, 2, 3] bcast_S262144x1x1x1_S262144x2x12x64_0_1_2_3
      (broadcastInDim S262144x1x1x1 ![0] bcast_S262144_S262144x1x1x1_0 x) (ix4 e b t d) = x (ix1 e) := fun x => by
    unfold broadcastInDim
    refine congrArg x (funext fun a => ?_)
    match a with
    | ⟨0, _⟩ => rfl
  unfold msgArr
  exact (mul_at _ _ _).trans (congrArg₂ (fun x y : EReal => x * y) hg ((hb (normArr V)).trans (norm_at V e)))

/-- What arrives at node `n`: the sum of all nodes' features by their weights. -/
theorem agg_at (n : Fin 512) (b : Fin 2) (t : Fin 12) (d : Fin 64) :
    (aggArr V (ix4 n b t d) : EReal) = ∑ i, (weight (adj V) i n : EReal) * (featArr V (ix4 i b t d) : EReal) := by
  have hzero : broadcastInDim S512x2x12x64 ![] bcast_S_S512x2x12x64 (constant S_ .f32 0x00000000#32 : FVec Ideal S_ .f32) (ix4 n b t d) = (0 : EReal) :=
    (bc0 _ _ _).trans Ideal.ofBits_zero_f32
  have h := scatter4_at (broadcastInDim S512x2x12x64 ![] bcast_S_S512x2x12x64 (constant S_ .f32 0x00000000#32)) _
    (msgArr V) (dstAt V) (dst_column V) n b t d
  simp only [hzero, msg_at, dstAt, srcAt] at h
  exact h.trans (arriving_eq (adj V) (fun i => featArr V (ix4 i b t d)) n)

end Cert.Encoder.Ref

end
-- ==== Proof.Ref.lean ====
/-
  The reference's result, element by element: the first linear map (`feat_at`), the graph convolution (`spatial_at`), the temporal
  convolution with the residual (`mixed_at`), the layer norm (`result_at`).
-/
module

public import proofs.«01_k».proof.Proof.RefArrive
public import Idealize.ShloMosaic.Lib.Pointwise

@[expose] public section

noncomputable section

namespace Cert.Encoder.Ref

open Cert.ReferenceIdeal Cert.ReferenceIdeal.Gen Cert.ReferenceIdeal.Value
open Idealize.ShloMosaic
open scoped BigOperators

variable (V : Valuation τ sig (Elt Ideal))

/-- The network's data among the reference's arguments. -/
def dataOf : Data where
  X b n t e := V (Proc.devRef .tc main_arg0) (ix4 b n t e)
  A := adj V
  W1 e d := V (Proc.devRef .tc main_arg2) (ix2 e d)
  b1 d := V (Proc.devRef .tc main_arg3) (ix1 d)
  θ0 d f := V (Proc.devRef .tc main_arg4) (ix2 d f)
  θ1 d f := V (Proc.devRef .tc main_arg5) (ix2 d f)
  Wt f g k := V (Proc.devRef .tc main_arg6) (ix3 f g k)
  bt f := V (Proc.devRef .tc main_arg7) (ix1 f)
  Wr d f := V (Proc.devRef .tc main_arg8) (ix2 d f)
  γ f := V (Proc.devRef .tc main_arg9) (ix1 f)
  β f := V (Proc.devRef .tc main_arg10) (ix1 f)

/-- The first linear map. -/
theorem feat_at (n : Fin 512) (b : Fin 2) (t : Fin 12) (d : Fin 64) : (featArr V (ix4 n b t d) : EReal) = feat (dataOf V) b n t d := by
  unfold featArr
  pointwise [res_main_v55]
  rfl

/-- The word zero, as a float. -/
theorem zero_word : (FloatOps.sitofp FTy.f32 (0#32 : BitVec 32) : Ideal .f32) = (0 : EReal) := by
  show (((0#32 : BitVec 32).toInt : ℝ) : EReal) = 0
  simp

/-- The padded graph convolution, of the features and of what arrives. -/
theorem v73_eq : res_main_v73 V = pad S512x2x14x64 ![0, 0, 1, 0] ![0, 0, 1, 0] ![0, 0, 0, 0] (maximumf (addf (Host.dotGeneral (φ₂ := .f32) dot_S512x2x12x64_S64x64_S512x2x12x64_3_0_012_1_n_n none (featArr V) (V (Proc.devRef .tc main_arg4))) (Host.dotGeneral (φ₂ := .f32) dot_S512x2x12x64_S64x64_S512x2x12x64_3_0_012_1_n_n none (aggArr V) (V (Proc.devRef .tc main_arg5)))) (broadcastInDim S512x2x12x64 ![] bcast_S_S512x2x12x64 (constant S_ .f32 0x00000000#32))) (sitofp .f32 (constantI S_ 32 0#32)) pads_S512x2x12x64_S512x2x14x64_000_000_110_000 h_S_ := by
  unfold res_main_v73 aggArr msgArr normArr featArr
  rfl

/-- What arrives at a node, of the first linear map's features. -/
theorem agg_feat (n : Fin 512) (b : Fin 2) (t : Fin 12) (d : Fin 64) :
    (aggArr V (ix4 n b t d) : EReal) = ∑ i, (weight (dataOf V).A i n : EReal) * feat (dataOf V) b i t d := by
  have hA : (dataOf V).A = adj V := rfl
  have hf := fun (i : Fin 512) => feat_at V i b t d
  rw [hA]
  simp only [← hf]
  exact agg_at V n b t d

/-- The padded graph convolution at step `k` of the fourteen. -/
theorem spatial_at (n : Fin 512) (b : Fin 2) (k : Fin 14) (f : Fin 64) :
    (res_main_v73 V (ix4 n b k f) : EReal) = padded (fun u => spatialR (dataOf V) b n u f) k.val := by
  have ha := fun (u : Fin 12) (d : Fin 64) => agg_feat V n b u d
  have hf := fun (i : Fin 512) (u : Fin 12) (d : Fin 64) => feat_at V i b u d
  rw [v73_eq]
  have hc : ∀ (a h : FVec Ideal S512x2x12x64 .f32), (pad S512x2x14x64 ![0, 0, 1, 0] ![0, 0, 1, 0] ![0, 0, 0, 0] (maximumf (addf (Host.dotGeneral (φ₂ := .f32) dot_S512x2x12x64_S64x64_S512x2x12x64_3_0_012_1_n_n none h (V (Proc.devRef .tc main_arg4))) (Host.dotGeneral (φ₂ := .f32) dot_S512x2x12x64_S64x64_S512x2x12x64_3_0_012_1_n_n none a (V (Proc.devRef .tc main_arg5)))) (broadcastInDim S512x2x12x64 ![] bcast_S_S512x2x12x64 (constant S_ .f32 0x00000000#32))) (sitofp .f32 (constantI S_ 32 0#32) : FVec Ideal S_ .f32) pads_S512x2x12x64_S512x2x14x64_000_000_110_000 h_S_ (ix4 n b k f) : EReal)
      = padded (fun u => max ((∑ d, h (ix4 n b u d) * (dataOf V).θ0 d f) + ∑ d, a (ix4 n b u d) * (dataOf V).θ1 d f) 0) k.val := fun a h => by
    pointwise []
    unfold padded
    have e : (1 ≤ k.val ∧ k.val - 1 < 12) ↔ (1 ≤ k.val ∧ k.val < 13) := by omega
    by_cases hk : 1 ≤ k.val ∧ k.val < 13
    · rw [dif_pos (e.2 hk), dif_pos hk]; rfl
    · rw [dif_neg (fun q => hk (e.1 q)), dif_neg hk]
      exact zero_word
  refine (hc _ _).trans (congrArg (fun s => padded s k.val) (funext fun u => ?_))
  unfold spatialR
  simp only [← ha]
  simp only [← hf]

/-- The temporal convolution, with bias and residual, before the layer norm. -/
theorem mixed_at (n : Fin 512) (b : Fin 2) (t : Fin 12) (f : Fin 64) :
    (res_main_v96 V (ix4 n b t f) : EReal) = mixed (dataOf V) (spatialR (dataOf V)) b n t f := by
  have hs := fun (k : Fin 14) (g : Fin 64) => spatial_at V n b k g
  have hf := fun (d : Fin 64) => feat_at V n b t d
  unfold mixed
  simp only [← hf]
  have h0 := fun g => hs ⟨t.val, by have := t.isLt; omega⟩ g
  have h1 := fun g => hs ⟨t.val + 1, by have := t.isLt; omega⟩ g
  have h2 := fun g => hs ⟨t.val + 2, by have := t.isLt; omega⟩ g
  simp only [← h0, ← h1, ← h2]
  unfold res_main_v96 featArr
  generalize res_main_v73 V = a
  generalize res_main_v55 V = h
  pointwise []
  simp only [Nat.add_comm _ t.val]
  rfl

/-- The reference's result. -/
def resArr : FVec Ideal S2x512x64x12 .f32 :=
  transpose S2x512x64x12 [1, 0, 3, 2] (addf (mulf (Host.divf (subf (res_main_v96 V) (broadcastInDim S512x2x12x64 ![0, 1, 2, 3] bcast_S512x2x12x1_S512x2x12x64_0_1_2_3 (Host.divf (broadcastInDim S512x2x12x1 ![0, 1, 2] bcast_S512x2x12_S512x2x12x1_0_1_2 (Host.reduceAdd (res_main_v96 V) (constant S_ .f32 0x00000000#32) reducesTo_S512x2x12x64_S512x2x12_d3 h_S_)) (broadcastInDim S512x2x12x1 ![] bcast_S_S512x2x12x1 (constant S_ .f32 0x42800000#32))))) (broadcastInDim S512x2x12x64 ![0, 1, 2, 3] bcast_S512x2x12x1_S512x2x12x64_0_1_2_3 (Host.sqrt (addf (select (broadcastInDim S512x2x12x1 ![] bcast_S_S512x2x12x1 (cmpf .ogt (res_main_call11_v8 V) (constant S_ .f32 0x00000000#32))) (Host.divf (broadcastInDim S512x2x12x1 ![0, 1, 2] bcast_S512x2x12_S512x2x12x1_0_1_2 (Host.reduceAdd (mulf (res_main_call11_v5 V) (res_main_call11_v5 V)) (constant S_ .f32 0x00000000#32) reducesTo_S512x2x12x64_S512x2x12_d3 h_S_)) (broadcastInDim S512x2x12x1 ![] bcast_S_S512x2x12x1 (res_main_call11_v8 V))) (broadcastInDim S512x2x12x1 ![] bcast_S_S512x2x12x1 (id (constant S_ .f32 0x7FC00000#32)))) (broadcastInDim S512x2x12x1 ![] bcast_S_S512x2x12x1 (constant S_ .f32 0x3727C5AC#32)))))) (broadcastInDim S512x2x12x64 ![0, 1, 2, 3] bcast_S1x1x1x64_S512x2x12x64_0_1_2_3 (broadcastInDim S1x1x1x64 ![3] bcast_S64_S1x1x1x64_3 (V (Proc.devRef .tc main_arg9))))) (broadcastInDim S512x2x12x64 ![0, 1, 2, 3] bcast_S1x1x1x64_S512x2x12x64_0_1_2_3 (broadcastInDim S1x1x1x64 ![3] bcast_S64_S1x1x1x64_3 (V (Proc.devRef .tc main_arg10))))) transposes_S512x2x12x64_S2x512x64x12_1_0_3_2

/-- The reference's result is the layer norm of the mixed features. -/
theorem result_at (b : Fin 2) (n : Fin 512) (f : Fin 64) (t : Fin 12) : (resArr V (ix4 b n f t) : EReal) = outR (dataOf V) b n t f := by
  have hm := fun (g : Fin 64) => mixed_at V n b t g
  unfold outR normR spread centred
  simp only [← hm]
  unfold resArr res_main_call11_v5 res_main_call11_v8
  generalize res_main_v96 V = a
  have hz : (FloatOps.sitofp FTy.f32 (0#32 : BitVec 32) : Ideal .f32) = (0 : EReal) := zero_word
  have h64 : Ideal.ofBits FTy.f32 0x42800000#32 - (0 : EReal) = sixtyFour := sub_zero _
  have hpos : (0 : EReal) < sixtyFour := by rw [sixtyFour_eq]; exact EReal.coe_pos.2 (by norm_num)
  pointwise []
  rw [hz, h64, if_pos hpos]
  rfl

end Cert.Encoder.Ref

end
-- ==== Proof.Agree.lean ====
/-
  The kernel and the reference agree: the precondition makes the input and two weight matrices real, both programs read the
  same data, and over such data the two forms of the encoder are one function.
-/
module

public import proofs.«01_k».proof.Defs
public import proofs.«01_k».proof.Proof.KerRun
public import proofs.«01_k».proof.Proof.Ref

@[expose] public section

noncomputable section

namespace Cert.Encoder

open Idealize.ShloMosaic Idealize.ShloMosaic.TcCoe Idealize.ShloMosaic.Tactic
open Idealize.SL.Sem

/-- An extended real whose absolute value is below infinity is real. -/
theorem real_of_abs (x : EReal) (h : max x (-x) < ⊤) : ∃ r : ℝ, x = r := by
  induction x with
  | bot => simp at h
  | top => simp at h
  | coe r => exact ⟨r, rfl⟩

/-- The word of infinity is infinity. -/
theorem inf_word : (FloatOps.ofBits (F := Ideal) .f32 0x7F800000#32 : EReal) = ⊤ := by
  show Ideal.ofBits .f32 0x7F800000#32 = ⊤
  simp [Ideal.ofBits, Ideal.ieee]

/-- Where the comparison of an absolute value with infinity gives one, the number is real. -/
theorem real_of_bit (x : Ideal .f32)
    (h : FloatOps.cmpf (F := Ideal) .olt (FloatOps.hostAbsf x) (FloatOps.ofBits .f32 0x7F800000#32) = 1#1) : ∃ r : ℝ, (x : EReal) = r := by
  refine real_of_abs x ?_
  rw [inf_word] at h
  refine of_decide_eq_true ?_
  by_contra hn
  rw [Bool.not_eq_true] at hn
  refine absurd (show BitVec.ofBool (decide (max (x : EReal) (-x) < ⊤)) = 1#1 from h) ?_
  rw [hn]
  decide

variable (m : (ℓ : Loc KernelIdeal.nD KernelIdeal.τ KernelIdeal.sig) → Buf (Elt Ideal) ℓ) (c : Dev KernelIdeal.nD)

/-- Under the precondition the input and the two weight matrices are real. -/
theorem finite_of_pre [Pre_finite.Facts] (h : Pre_KernelIdeal_finite m) : Finite (Ker.dataOf m c) := by
  obtain ⟨hX, hW, hθ⟩ := h c
  refine ⟨fun b n t e => real_of_bit _ ?_, fun e d => real_of_bit _ ?_, fun d f => real_of_bit _ ?_⟩
  · exact congrFun hX (ix4 b n t e)
  · exact congrFun hW (ix2 e d)
  · exact congrFun hθ (ix2 d f)

variable (m' : (ℓ : Loc ReferenceIdeal.nD ReferenceIdeal.τ ReferenceIdeal.sig) → Buf (Elt Ideal) ℓ)

/-- The two programs are launched with the same arguments. -/
def SameArgs : Prop :=
  m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)
    ∧ m' ((c.tc : Thread ReferenceIdeal.nD ReferenceIdeal.τ).loc ReferenceIdeal.main_arg5) = m ((c.tc : Thread KernelIdeal.nD KernelIdeal.τ).loc KernelIdeal.main_arg5)
    ∧ m' ((c.tc : Thread ReferenceIdeal.nD ReferenceIdeal.τ).loc ReferenceIdeal.main_arg6) = m ((c.tc : Thread KernelIdeal.nD KernelIdeal.τ).loc KernelIdeal.main_arg6)
    ∧ m' ((c.tc : Thread ReferenceIdeal.nD ReferenceIdeal.τ).loc ReferenceIdeal.main_arg7) = m ((c.tc : Thread KernelIdeal.nD KernelIdeal.τ).loc KernelIdeal.main_arg7)
    ∧ m' ((c.tc : Thread ReferenceIdeal.nD ReferenceIdeal.τ).loc ReferenceIdeal.main_arg8) = m ((c.tc : Thread KernelIdeal.nD KernelIdeal.τ).loc KernelIdeal.main_arg8)
    ∧ m' ((c.tc : Thread ReferenceIdeal.nD ReferenceIdeal.τ).loc ReferenceIdeal.main_arg9) = m ((c.tc : Thread KernelIdeal.nD KernelIdeal.τ).loc KernelIdeal.main_arg9)
    ∧ m' ((c.tc : Thread ReferenceIdeal.nD ReferenceIdeal.τ).loc ReferenceIdeal.main_arg10) = m ((c.tc : Thread KernelIdeal.nD KernelIdeal.τ).loc KernelIdeal.main_arg10)

/-- Launched with the same arguments, the two programs read the same data. -/
theorem data_eq (h : SameArgs m c m') : Ref.dataOf (StableHlo.launchContents m' c) = Ker.dataOf m c := by
  obtain ⟨h0, h1, h2, h3, h4, h5, h6, h7, h8, h9, h10⟩ := h
  unfold Ref.dataOf Ker.dataOf
  congr 1
  · funext b n t e
    exact congrFun h0 _
  · funext i j
    exact congrFun h1 _
  · funext e d
    exact congrFun h2 _
  · funext d
    exact congrFun h3 _
  · funext d f
    exact congrFun h4 _
  · funext d f
    exact congrFun h5 _
  · funext f g k
    exact congrFun h6 _
  · funext f
    exact congrFun h7 _
  · funext d f
    exact congrFun h8 _
  · funext f
    exact congrFun h9 _
  · funext f
    exact congrFun h10 _

/-- Launched with the same arguments under the precondition, the two programs end with the same result array. -/
theorem arr_eq [Pre_finite.Facts] (h : Pre_KernelIdeal_finite m) (hs : SameArgs m c m') :
    Ref.resArr (StableHlo.launchContents m' c) = Ker.kerArr m c := by
  funext y
  obtain ⟨b, n, f, t, rfl⟩ : ∃ b n f t, y = ix4 b n f t := ⟨y 0, y 1, y 2, y 3, (ix4_eta y).symm⟩
  refine (Ref.result_at (StableHlo.launchContents m' c) _ _ _ _).trans (Eq.trans ?_ (Ker.result_at m c _ _ _ _).symm)
  rw [data_eq m c m' hs]
  exact (out_eq (finite_of_pre m c h) _ _ _ _).symm

end Cert.Encoder

end
-- ==== Proof.lean ====
/-
  The five claims: the kernel and the reference run to their end and leave their arguments and semaphores as they were; the
  idealised kernel is the kernel's own text; and over the extended reals, for real inputs, the kernel's result array is the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- What the precondition's program states of its shapes. -/
theorem preFacts : Cert.Pre_finite.Facts := ⟨by decide, by decide⟩

/-- The reference runs to its end, leaves its arguments as they were and uses no semaphore. -/
theorem frame_r : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The kernel and the reference, launched with the same arguments under `finite`, end with the same result. -/
theorem algebraic : Cert.algebraic_KernelIdeal_ReferenceIdeal_pre_finite (hPre_finite := preFacts) := fun m g m' g' hpre hargs =>
  haveI := preFacts
  ⟨fun c => Cert.Encoder.Ker.kerArr m c, Cert.Encoder.Ker.run m g,
    (θ_run Cert.ReferenceIdeal.defs _ _).mono
      (fun _ h c => ⟨(h c).1.trans (Cert.Encoder.arr_eq m c m' hpre (hargs c)), (h c).2⟩)
      (Cert.ReferenceIdeal.Value.run m' g')⟩

/-- All five claims. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, algebraic⟩

end Cert.Proof

end
